-- ==== Defs.lean ====
def Pre_Kernel [hPre_edges_name_nodes : Cert.Pre_edges_name_nodes.Facts] (m : (ℓ : Loc Cert.Kernel.nD Cert.Kernel.τ Cert.Kernel.sig) → Buf (Elt Bits) ℓ) : Prop :=
  ∀ c : Dev Cert.Kernel.nD,
    (Cert.Pre_edges_name_nodes.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_edges_name_nodes : Cert.Pre_edges_name_nodes.Facts] (m : (ℓ : Loc Cert.KernelIdeal.nD Cert.KernelIdeal.τ Cert.KernelIdeal.sig) → Buf (Elt Ideal) ℓ) : Prop :=
  ∀ c : Dev Cert.KernelIdeal.nD,
    (Cert.Pre_edges_name_nodes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_finite_on_nodes [hPre_finite_on_nodes : Cert.Pre_finite_on_nodes.Facts] (m : (ℓ : Loc Cert.KernelIdeal.nD Cert.KernelIdeal.τ Cert.KernelIdeal.sig) → Buf (Elt Ideal) ℓ) : Prop :=
  ∀ c : Dev Cert.KernelIdeal.nD,
    (Cert.Pre_finite_on_nodes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_on_nodes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_on_nodes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite_on_nodes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_on_nodes [hPre_finite_on_nodes : Cert.Pre_finite_on_nodes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_on_nodes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_on_nodes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_on_nodes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite_on_nodes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2 = (fun _ => 1#1)

def quiescent_Kernel [hKernel : Cert.Kernel.Facts] [hPre_edges_name_nodes : Cert.Pre_edges_name_nodes.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_edges_name_nodes : Cert.Pre_edges_name_nodes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_on_nodes [hKernelIdeal : Cert.KernelIdeal.Facts] [hPre_finite_on_nodes : Cert.Pre_finite_on_nodes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_on_nodes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_on_nodes [hReferenceIdeal : Cert.ReferenceIdeal.Facts] [hPre_finite_on_nodes : Cert.Pre_finite_on_nodes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_on_nodes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_on_nodes [hKernelIdeal : Cert.KernelIdeal.Facts] [hReferenceIdeal : Cert.ReferenceIdeal.Facts] [hPre_finite_on_nodes : Cert.Pre_finite_on_nodes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_on_nodes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_edges_name_nodes : Cert.Pre_edges_name_nodes.Facts) (hPre_finite_on_nodes : Cert.Pre_finite_on_nodes.Facts),
    quiescent_Kernel (hKernel := hKernel) (hPre_edges_name_nodes := hPre_edges_name_nodes)
    ∧ quiescent_KernelIdeal (hKernelIdeal := hKernelIdeal) (hPre_edges_name_nodes := hPre_edges_name_nodes)
    ∧ quiescent_KernelIdeal_pre_finite_on_nodes (hKernelIdeal := hKernelIdeal) (hPre_finite_on_nodes := hPre_finite_on_nodes)
    ∧ quiescent_ReferenceIdeal (hReferenceIdeal := hReferenceIdeal)
    ∧ quiescent_ReferenceIdeal_pre_finite_on_nodes (hReferenceIdeal := hReferenceIdeal) (hPre_finite_on_nodes := hPre_finite_on_nodes)
    ∧ preserves_Kernel_KernelIdeal
    ∧ algebraic_KernelIdeal_ReferenceIdeal_pre_finite_on_nodes (hKernelIdeal := hKernelIdeal) (hReferenceIdeal := hReferenceIdeal) (hPre_finite_on_nodes := hPre_finite_on_nodes)
-- ==== Pre_edges_name_nodes.lean ====
abbrev S10000x128 : Shape := ⟨2, ![10000, 128]⟩
abbrev S10000x3 : Shape := ⟨2, ![10000, 3]⟩
abbrev S160000 : Shape := ⟨1, ![160000]⟩
abbrev S256x128 : Shape := ⟨2, ![256, 128]⟩
abbrev S128x64 : Shape := ⟨2, ![128, 64]⟩
abbrev S128x128 : Shape := ⟨2, ![128, 128]⟩
abbrev S_ : Shape := ⟨0, ![]⟩

class Facts : Prop where
  bcast_S_S160000 : S_.BroadcastsInDim S160000 (![] : Fin 0 → Fin S160000.rank)

variable [Facts]

def fn {F : FTy → Type} [FloatOps F] (main_arg0 : FVec F S10000x128 .f32) (main_arg1 : FVec F S10000x3 .f32) (main_arg2 : IVec S160000 32) (main_arg3 : IVec S160000 32) (main_arg4 : FVec F S256x128 .f32) (main_arg5 : FVec F S128x64 .f32) (main_arg6 : FVec F S128x128 .f32) : IVec S160000 1 :=
  let main_c : IVec S_ 32 := constantI S_ 32 0#32
  let main_v0 : IVec S160000 32 := broadcastInDim S160000 ![] bcast_S_S160000 main_c
  let main_v1 : IVec S160000 1 := cmpi .sge main_arg2 main_v0
  let main_c_0 : IVec S_ 32 := constantI S_ 32 10000#32
  let main_v2 : IVec S160000 32 := broadcastInDim S160000 ![] bcast_S_S160000 main_c_0
  let main_v3 : IVec S160000 1 := cmpi .slt main_arg2 main_v2
  let main_v4 : IVec S160000 1 := andi main_v1 main_v3
  let main_c_1 : IVec S_ 32 := constantI S_ 32 0#32
  let main_v5 : IVec S160000 32 := broadcastInDim S160000 ![] bcast_S_S160000 main_c_1
  let main_v6 : IVec S160000 1 := cmpi .sge main_arg3 main_v5
  let main_v7 : IVec S160000 1 := andi main_v4 main_v6
  let main_c_2 : IVec S_ 32 := constantI S_ 32 10000#32
  let main_v8 : IVec S160000 32 := broadcastInDim S160000 ![] bcast_S_S160000 main_c_2
  let main_v9 : IVec S160000 1 := cmpi .slt main_arg3 main_v8
  let main_v10 : IVec S160000 1 := andi main_v7 main_v9
  main_v10
-- ==== Pre_finite_on_nodes.lean ====
abbrev S10000x128 : Shape := ⟨2, ![10000, 128]⟩
abbrev S10000x3 : Shape := ⟨2, ![10000, 3]⟩
abbrev S160000 : Shape := ⟨1, ![160000]⟩
abbrev S256x128 : Shape := ⟨2, ![256, 128]⟩
abbrev S128x64 : Shape := ⟨2, ![128, 64]⟩
abbrev S128x128 : Shape := ⟨2, ![128, 128]⟩
abbrev S_ : Shape := ⟨0, ![]⟩

class Facts : Prop where
  bcast_S_S160000 : S_.BroadcastsInDim S160000 (![] : Fin 0 → Fin S160000.rank)
  bcast_S_S10000x128 : S_.BroadcastsInDim S10000x128 (![] : Fin 0 → Fin S10000x128.rank)
  bcast_S_S256x128 : S_.BroadcastsInDim S256x128 (![] : Fin 0 → Fin S256x128.rank)
  bcast_S_S128x64 : S_.BroadcastsInDim S128x64 (![] : Fin 0 → Fin S128x64.rank)

variable [Facts]

def fn_part1 {F : FTy → Type} [FloatOps F] (main_v10 : IVec S160000 1) (main_v13 : IVec S10000x128 1) (main_v16 : IVec S256x128 1) (main_v17 : FVec F S128x64 .f32) : IVec S160000 1 × IVec S10000x128 1 × IVec S256x128 1 × IVec S128x64 1 :=
  let main_cst_4 : FVec F S_ .f32 := constant S_ .f32 0x7F800000#32
  let main_v18 : FVec F S128x64 .f32 := broadcastInDim S128x64 ![] bcast_S_S128x64 main_cst_4
  let main_v19 : IVec S128x64 1 := cmpf .olt main_v17 main_v18
  (main_v10, main_v13, main_v16, main_v19)

def fn {F : FTy → Type} [FloatOps F] (main_arg0 : FVec F S10000x128 .f32) (main_arg1 : FVec F S10000x3 .f32) (main_arg2 : IVec S160000 32) (main_arg3 : IVec S160000 32) (main_arg4 : FVec F S256x128 .f32) (main_arg5 : FVec F S128x64 .f32) (main_arg6 : FVec F S128x128 .f32) : IVec S160000 1 × IVec S10000x128 1 × IVec S256x128 1 × IVec S128x64 1 :=
  let main_c : IVec S_ 32 := constantI S_ 32 0#32
  let main_v0 : IVec S160000 32 := broadcastInDim S160000 ![] bcast_S_S160000 main_c
  let main_v1 : IVec S160000 1 := cmpi .sge main_arg2 main_v0
  let main_c_0 : IVec S_ 32 := constantI S_ 32 10000#32
  let main_v2 : IVec S160000 32 := broadcastInDim S160000 ![] bcast_S_S160000 main_c_0
  let main_v3 : IVec S160000 1 := cmpi .slt main_arg2 main_v2
  let main_v4 : IVec S160000 1 := andi main_v1 main_v3
  let main_c_1 : IVec S_ 32 := constantI S_ 32 0#32
  let main_v5 : IVec S160000 32 := broadcastInDim S160000 ![] bcast_S_S160000 main_c_1
  let main_v6 : IVec S160000 1 := cmpi .sge main_arg3 main_v5
  let main_v7 : IVec S160000 1 := andi main_v4 main_v6
  let main_c_2 : IVec S_ 32 := constantI S_ 32 10000#32
  let main_v8 : IVec S160000 32 := broadcastInDim S160000 ![] bcast_S_S160000 main_c_2
  let main_v9 : IVec S160000 1 := cmpi .slt main_arg3 main_v8
  let main_v10 : IVec S160000 1 := andi main_v7 main_v9
  let main_v11 : FVec F S10000x128 .f32 := Host.absf main_arg0
  let main_cst : FVec F S_ .f32 := constant S_ .f32 0x7F800000#32
  let main_v12 : FVec F S10000x128 .f32 := broadcastInDim S10000x128 ![] bcast_S_S10000x128 main_cst
  let main_v13 : IVec S10000x128 1 := cmpf .olt main_v11 main_v12
  let main_v14 : FVec F S256x128 .f32 := Host.absf main_arg4
  let main_cst_3 : FVec F S_ .f32 := constant S_ .f32 0x7F800000#32
  let main_v15 : FVec F S256x128 .f32 := broadcastInDim S256x128 ![] bcast_S_S256x128 main_cst_3
  let main_v16 : IVec S256x128 1 := cmpf .olt main_v14 main_v15
  let main_v17 : FVec F S128x64 .f32 := Host.absf main_arg5
  fn_part1 (F := F) main_v10 main_v13 main_v16 main_v17
-- ==== Kernel.lean ====
abbrev S10000x128 : Shape := ⟨2, ![10000, 128]⟩
abbrev S10000x3 : Shape := ⟨2, ![10000, 3]⟩
abbrev S160000 : Shape := ⟨1, ![160000]⟩
abbrev S256x128 : Shape := ⟨2, ![256, 128]⟩
abbrev S128x64 : Shape := ⟨2, ![128, 64]⟩
abbrev S128x128 : Shape := ⟨2, ![128, 128]⟩
abbrev S_ : Shape := ⟨0, ![]⟩
abbrev S128x192 : Shape := ⟨2, ![128, 192]⟩
abbrev S10000x192 : Shape := ⟨2, ![10000, 192]⟩
abbrev S400x128 : Shape := ⟨2, ![400, 128]⟩
abbrev S400x192 : Shape := ⟨2, ![400, 192]⟩
abbrev S10000x4 : Shape := ⟨2, ![10000, 4]⟩
abbrev S80x1x2000 : Shape := ⟨3, ![80, 1, 2000]⟩
abbrev S2x10000x320 : Shape := ⟨3, ![2, 10000, 320]⟩
abbrev S1x1x2000 : Shape := ⟨3, ![1, 1, 2000]⟩
abbrev S1x10000x320 : Shape := ⟨3, ![1, 10000, 320]⟩
abbrev S1x1x1 : Shape := ⟨3, ![1, 1, 1]⟩
abbrev S1x4 : Shape := ⟨2, ![1, 4]⟩
abbrev S1x1x4 : Shape := ⟨3, ![1, 1, 4]⟩
abbrev S1 : Shape := ⟨1, ![1]⟩
abbrev S1x1 : Shape := ⟨2, ![1, 1]⟩
abbrev S1x192 : Shape := ⟨2, ![1, 192]⟩
abbrev S1x128 : Shape := ⟨2, ![1, 128]⟩
abbrev S1x64 : Shape := ⟨2, ![1, 64]⟩
abbrev S1x320 : Shape := ⟨2, ![1, 320]⟩
abbrev S1x1x320 : Shape := ⟨3, ![1, 1, 320]⟩
abbrev S10000x320 : Shape := ⟨2, ![10000, 320]⟩
abbrev S10000x3x64 : Shape := ⟨3, ![10000, 3, 64]⟩
abbrev S10000x64x3 : Shape := ⟨3, ![10000, 64, 3]⟩

abbrev nBuf : Space → Nat
  | .hbm => 59
  | .vmem => 12
  | .smem => 4
  | _ => 0

abbrev bufTy : (tb : Table) → Fin (tcTables nBuf tb) → BufTy
  | .hbm, ⟨0, _⟩ => ⟨S10000x128, .f32⟩
  | .hbm, ⟨1, _⟩ => ⟨S10000x3, .f32⟩
  | .hbm, ⟨2, _⟩ => ⟨S160000, .i32⟩
  | .hbm, ⟨3, _⟩ => ⟨S160000, .i32⟩
  | .hbm, ⟨4, _⟩ => ⟨S256x128, .f32⟩
  | .hbm, ⟨5, _⟩ => ⟨S128x64, .f32⟩
  | .hbm, ⟨6, _⟩ => ⟨S128x128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S128x128, .f32⟩
  | .hbm, ⟨24, _⟩ => ⟨S128x128, .f32⟩
  | .hbm, ⟨25, _⟩ => ⟨S_, .f32⟩
  | .hbm, ⟨26, _⟩ => ⟨S128x128, .f32⟩
  | .hbm, ⟨27, _⟩ => ⟨S128x128, .f32⟩
  | .hbm, ⟨28, _⟩ => ⟨S128x128, .f32⟩
  | .hbm, ⟨29, _⟩ => ⟨S_, .f32⟩
  | .hbm, ⟨30, _⟩ => ⟨S128x128, .f32⟩
  | .hbm, ⟨31, _⟩ => ⟨S128x128, .f32⟩
  | .hbm, ⟨32, _⟩ => ⟨S_, .f32⟩
  | .hbm, ⟨33, _⟩ => ⟨S128x64, .f32⟩
  | .hbm, ⟨34, _⟩ => ⟨S128x64, .f32⟩
  | .hbm, ⟨35, _⟩ => ⟨S128x192, .f32⟩
  | .hbm, ⟨36, _⟩ => ⟨S_, .f32⟩
  | .hbm, ⟨37, _⟩ => ⟨S128x128, .f32⟩
  | .hbm, ⟨38, _⟩ => ⟨S128x128, .f32⟩
  | .hbm, ⟨39, _⟩ => ⟨S10000x192, .f32⟩
  | .hbm, ⟨40, _⟩ => ⟨S10000x128, .f32⟩
  | .hbm, ⟨41, _⟩ => ⟨S_, .i32⟩
  | .hbm, ⟨42, _⟩ => ⟨S_, .f32⟩
  | .hbm, ⟨43, _⟩ => ⟨S10000x4, .f32⟩
  | .hbm, ⟨44, _⟩ => ⟨S80x1x2000, .i32⟩
  | .hbm, ⟨45, _⟩ => ⟨S80x1x2000, .i32⟩
  | .hbm, ⟨46, _⟩ => ⟨S2x10000x320, .f32⟩
  | .hbm, ⟨47, _⟩ => ⟨S1x10000x320, .f32⟩
  | .hbm, ⟨48, _⟩ => ⟨S10000x320, .f32⟩
  | .hbm, ⟨49, _⟩ => ⟨S1x10000x320, .f32⟩
  | .hbm, ⟨50, _⟩ => ⟨S10000x320, .f32⟩
  | .hbm, ⟨51, _⟩ => ⟨S10000x320, .f32⟩
  | .hbm, ⟨52, _⟩ => ⟨S10000x128, .f32⟩
  | .hbm, ⟨53, _⟩ => ⟨S10000x128, .f32⟩
  | .hbm, ⟨54, _⟩ => ⟨S10000x192, .f32⟩
  | .hbm, ⟨55, _⟩ => ⟨S10000x3x64, .f32⟩
  | .hbm, ⟨56, _⟩ => ⟨S10000x64x3, .f32⟩
  | .hbm, ⟨57, _⟩ => ⟨S10000x192, .f32⟩
  | .hbm, ⟨58, _⟩ => ⟨S10000x320, .f32⟩
  | .local _ .vmem, ⟨0, _⟩ => ⟨S400x128, .f32⟩
  | .local _ .vmem, ⟨1, _⟩ => ⟨S400x128, .f32⟩
  | .local _ .vmem, ⟨2, _⟩ => ⟨S128x192, .f32⟩
  | .local _ .vmem, ⟨3, _⟩ => ⟨S128x128, .f32⟩
  | .local _ .vmem, ⟨4, _⟩ => ⟨S400x192, .f32⟩
  | .local _ .vmem, ⟨5, _⟩ => ⟨S400x192, .f32⟩
  | .local _ .vmem, ⟨6, _⟩ => ⟨S400x128, .f32⟩
  | .local _ .vmem, ⟨7, _⟩ => ⟨S400x128, .f32⟩
  | .local _ .vmem, ⟨8, _⟩ => ⟨S10000x4, .f32⟩
  | .local _ .vmem, ⟨9, _⟩ => ⟨S10000x192, .f32⟩
  | .local _ .vmem, ⟨10, _⟩ => ⟨S1x10000x320, .f32⟩
  | .local _ .vmem, ⟨11, _⟩ => ⟨S1x10000x320, .f32⟩
  | .local _ .smem, ⟨0, _⟩ => ⟨S1x1x2000, .i32⟩
  | .local _ .smem, ⟨1, _⟩ => ⟨S1x1x2000, .i32⟩
  | .local _ .smem, ⟨2, _⟩ => ⟨S1x1x2000, .i32⟩
  | .local _ .smem, ⟨3, _⟩ => ⟨S1x1x2000, .i32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_cst_2 : Ref sig .tc := ⟨.hbm, 13, rfl⟩
abbrev main_v3 : Ref sig .tc := ⟨.hbm, 14, rfl⟩
abbrev main_cst_3 : Ref sig .tc := ⟨.hbm, 15, rfl⟩
abbrev main_v4 : Ref sig .tc := ⟨.hbm, 16, rfl⟩
abbrev main_cst_4 : Ref sig .tc := ⟨.hbm, 17, rfl⟩
abbrev main_v5 : Ref sig .tc := ⟨.hbm, 18, rfl⟩
abbrev main_cst_5 : Ref sig .tc := ⟨.hbm, 19, rfl⟩
abbrev main_v6 : Ref sig .tc := ⟨.hbm, 20, rfl⟩
abbrev main_cst_6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_7 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23_0 : Ref sig .tc := ⟨.hbm, 39, rfl⟩
abbrev main_v23_1 : Ref sig .tc := ⟨.hbm, 40, rfl⟩
abbrev main_c : Ref sig .tc := ⟨.hbm, 41, rfl⟩
abbrev main_call0_v0 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg0_0 : Ref sig .tc := ⟨.smem, 0, rfl⟩
abbrev cc1_stg0_1 : Ref sig .tc := ⟨.smem, 1, rfl⟩
abbrev cc1_stg1_0 : Ref sig .tc := ⟨.smem, 2, rfl⟩
abbrev cc1_stg1_1 : Ref sig .tc := ⟨.smem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 40], ![false, false]⟩

@[reducible] def k1_t1_loop : Scf.Loop 32 :=
  let c0_i32_1 : BitVec 32 := 0#32
  let c2000_i32 : BitVec 32 := 2000#32
  let v3 : BitVec 32 := Scalar.addi c0_i32_1 c2000_i32
  let c1_i32 : BitVec 32 := 1#32
  ⟨c0_i32_1, v3, c1_i32⟩
def k1_off1 (k1_t1 : Fin k1_t1_loop.trips) : Fin 3 → Nat :=
  let c0 : Index := 0#32
  let c0_3 : Index := 0#32
  let c0_i32_1 : BitVec 32 := 0#32
  let c1_i32 : BitVec 32 := 1#32
  let arg7 : BitVec 32 := Scf.iv c0_i32_1 c1_i32 k1_t1
  let v4 : Index := Scalar.indexCast arg7
  ![0, 0, v4.toNat]
def k1_off2 (v5 : BitVec 32) : Fin 2 → Nat :=
  let v8 : Index := Scalar.indexCast v5
  let c0_6 : Index := 0#32
  ![v8.toNat, 0]

def k1_off3 (v7 : BitVec 32) : Fin 2 → Nat :=
  let v11 : Index := Scalar.indexCast v7
  let c0_7 : Index := 0#32
  ![v11.toNat, 0]

def k1_off4 (v5 : BitVec 32) : Fin 2 → Nat :=
  let v32 : Index := Scalar.indexCast v5
  let c0_10 : Index := 0#32
  ![v32.toNat, 0]

def k1_chk1 (v5 : BitVec 32) : Prop :=
  (∀ a, (k1_off2 v5) a + S1x4.size a ≤ S10000x4.size a) ∧
  (∀ a, (k1_off4 v5) a + S1x192.size a ≤ S10000x192.size a)
theorem k1_off2_inb : ∀ (v5 : BitVec 32) (k1_hw1 : k1_chk1 v5), ∀ a, (k1_off2 v5) a + S1x4.size a ≤ S10000x4.size a := fun v5 k1_hw1 => k1_hw1.1
theorem k1_off4_inb : ∀ (v5 : BitVec 32) (k1_hw1 : k1_chk1 v5), ∀ a, (k1_off4 v5) a + S1x192.size a ≤ S10000x192.size a := fun v5 k1_hw1 => k1_hw1.2

def k1_off5 (v7 : BitVec 32) : Fin 3 → Nat :=
  let c0_11 : Index := 0#32
  let v44 : Index := Scalar.indexCast v7
  let c0_12 : Index := 0#32
  ![0, v44.toNat, 0]

def k1_chk2 (v7 : BitVec 32) : Prop :=
  (∀ a, (k1_off3 v7) a + S1x4.size a ≤ S10000x4.size a) ∧
  (∀ a, (k1_off5 v7) a + S1x1x320.size a ≤ S1x10000x320.size a)
theorem k1_off3_inb : ∀ (v7 : BitVec 32) (k1_hw2 : k1_chk2 v7), ∀ a, (k1_off3 v7) a + S1x4.size a ≤ S10000x4.size a := fun v7 k1_hw2 => k1_hw2.1
theorem k1_off5_inb : ∀ (v7 : BitVec 32) (k1_hw2 : k1_chk2 v7), ∀ a, (k1_off5 v7) a + S1x1x320.size a ≤ S1x10000x320.size a := fun v7 k1_hw2 => k1_hw2.2

def cc1_transform_0 (i : grid1.Coords) : Fin 3 → Nat :=
  let arg0 : BitVec 32 := BitVec.ofNat 32 (i 0).val
  let arg1 : BitVec 32 := BitVec.ofNat 32 (i 1).val
  let c40_i32 : BitVec 32 := 40#32
  let v0 : BitVec 32 := Scalar.muli arg0 c40_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c40_i32 : BitVec 32 := 40#32
  let v0 : BitVec 32 := Scalar.muli arg0 c40_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .smem S1x1x2000 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .smem S1x1x2000 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S10000x4 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S10000x192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x10000x320 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]
-- ==== ReferenceIdeal.lean ====
abbrev S10000x128 : Shape := ⟨2, ![10000, 128]⟩
abbrev S10000x3 : Shape := ⟨2, ![10000, 3]⟩
abbrev S160000 : Shape := ⟨1, ![160000]⟩
abbrev S256x128 : Shape := ⟨2, ![256, 128]⟩
abbrev S128x64 : Shape := ⟨2, ![128, 64]⟩
abbrev S128x128 : Shape := ⟨2, ![128, 128]⟩
abbrev S_ : Shape := ⟨0, ![]⟩
abbrev S160000x1 : Shape := ⟨2, ![160000, 1]⟩
abbrev S160000x3 : Shape := ⟨2, ![160000, 3]⟩
abbrev S160000x4 : Shape := ⟨2, ![160000, 4]⟩
abbrev S160000x128 : Shape := ⟨2, ![160000, 128]⟩
abbrev S160000x128x1 : Shape := ⟨3, ![160000, 128, 1]⟩
abbrev S160000x1x4 : Shape := ⟨3, ![160000, 1, 4]⟩
abbrev S160000x128x4 : Shape := ⟨3, ![160000, 128, 4]⟩
abbrev S160000x256 : Shape := ⟨2, ![160000, 256]⟩
abbrev S160000x128x3 : Shape := ⟨3, ![160000, 128, 3]⟩
abbrev S10000x256 : Shape := ⟨2, ![10000, 256]⟩
abbrev S160000x384 : Shape := ⟨2, ![160000, 384]⟩
abbrev S10000x384 : Shape := ⟨2, ![10000, 384]⟩
abbrev S10000x128x3 : Shape := ⟨3, ![10000, 128, 3]⟩
abbrev S64x10000x3 : Shape := ⟨3, ![64, 10000, 3]⟩
abbrev S10000x64x3 : Shape := ⟨3, ![10000, 64, 3]⟩
abbrev S10000x192 : Shape := ⟨2, ![10000, 192]⟩
abbrev S10000x320 : Shape := ⟨2, ![10000, 320]⟩

abbrev nBuf : Space → Nat
  | .hbm => 114
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x3, .f32⟩
  | .hbm, ⟨2, _⟩ => ⟨S160000, .i32⟩
  | .hbm, ⟨3, _⟩ => ⟨S160000, .i32⟩
  | .hbm, ⟨4, _⟩ => ⟨S256x128, .f32⟩
  | .hbm, ⟨5, _⟩ => ⟨S128x64, .f32⟩
  | .hbm, ⟨6, _⟩ => ⟨S128x128, .f32⟩
  | .hbm, ⟨7, _⟩ => ⟨S_, .i32⟩
  | .hbm, ⟨8, _⟩ => ⟨S160000, .i32⟩
  | .hbm, ⟨9, _⟩ => ⟨S160000, .i1⟩
  | .hbm, ⟨10, _⟩ => ⟨S_, .i32⟩
  | .hbm, ⟨11, _⟩ => ⟨S160000, .i32⟩
  | .hbm, ⟨12, _⟩ => ⟨S160000, .i32⟩
  | .hbm, ⟨13, _⟩ => ⟨S160000, .i32⟩
  | .hbm, ⟨14, _⟩ => ⟨S160000x1, .i32⟩
  | .hbm, ⟨15, _⟩ => ⟨S160000x3, .f32⟩
  | .hbm, ⟨16, _⟩ => ⟨S_, .i32⟩
  | .hbm, ⟨17, _⟩ => ⟨S160000, .i32⟩
  | .hbm, ⟨18, _⟩ => ⟨S160000, .i1⟩
  | .hbm, ⟨19, _⟩ => ⟨S_, .i32⟩
  | .hbm, ⟨20, _⟩ => ⟨S160000, .i32⟩
  | .hbm, ⟨21, _⟩ => ⟨S160000, .i32⟩
  | .hbm, ⟨22, _⟩ => ⟨S160000, .i32⟩
  | .hbm, ⟨23, _⟩ => ⟨S160000x1, .i32⟩
  | .hbm, ⟨24, _⟩ => ⟨S160000x3, .f32⟩
  | .hbm, ⟨25, _⟩ => ⟨S160000x3, .f32⟩
  | .hbm, ⟨26, _⟩ => ⟨S160000x3, .f32⟩
  | .hbm, ⟨27, _⟩ => ⟨S_, .f32⟩
  | .hbm, ⟨28, _⟩ => ⟨S160000, .f32⟩
  | .hbm, ⟨29, _⟩ => ⟨S160000x1, .f32⟩
  | .hbm, ⟨30, _⟩ => ⟨S160000x1, .f32⟩
  | .hbm, ⟨31, _⟩ => ⟨S_, .f32⟩
  | .hbm, ⟨32, _⟩ => ⟨S160000x1, .f32⟩
  | .hbm, ⟨33, _⟩ => ⟨S160000x1, .f32⟩
  | .hbm, ⟨34, _⟩ => ⟨S160000x3, .f32⟩
  | .hbm, ⟨35, _⟩ => ⟨S160000x3, .f32⟩
  | .hbm, ⟨36, _⟩ => ⟨S160000x1, .f32⟩
  | .hbm, ⟨37, _⟩ => ⟨S160000, .f32⟩
  | .hbm, ⟨38, _⟩ => ⟨S160000x1, .f32⟩
  | .hbm, ⟨39, _⟩ => ⟨S160000, .f32⟩
  | .hbm, ⟨40, _⟩ => ⟨S160000x1, .f32⟩
  | .hbm, ⟨41, _⟩ => ⟨S160000, .f32⟩
  | .hbm, ⟨42, _⟩ => ⟨S_, .f32⟩
  | .hbm, ⟨43, _⟩ => ⟨S160000, .f32⟩
  | .hbm, ⟨44, _⟩ => ⟨S_, .f32⟩
  | .hbm, ⟨45, _⟩ => ⟨S160000, .f32⟩
  | .hbm, ⟨46, _⟩ => ⟨S160000, .f32⟩
  | .hbm, ⟨47, _⟩ => ⟨S_, .f32⟩
  | .hbm, ⟨48, _⟩ => ⟨S160000, .f32⟩
  | .hbm, ⟨49, _⟩ => ⟨S160000, .f32⟩
  | .hbm, ⟨50, _⟩ => ⟨S_, .f32⟩
  | .hbm, ⟨51, _⟩ => ⟨S160000, .f32⟩
  | .hbm, ⟨52, _⟩ => ⟨S160000, .f32⟩
  | .hbm, ⟨53, _⟩ => ⟨S160000x1, .f32⟩
  | .hbm, ⟨54, _⟩ => ⟨S160000x1, .f32⟩
  | .hbm, ⟨55, _⟩ => ⟨S160000x1, .f32⟩
  | .hbm, ⟨56, _⟩ => ⟨S160000x1, .f32⟩
  | .hbm, ⟨57, _⟩ => ⟨S160000x4, .f32⟩
  | .hbm, ⟨58, _⟩ => ⟨S_, .i32⟩
  | .hbm, ⟨59, _⟩ => ⟨S160000, .i32⟩
  | .hbm, ⟨60, _⟩ => ⟨S160000, .i1⟩
  | .hbm, ⟨61, _⟩ => ⟨S_, .i32⟩
  | .hbm, ⟨62, _⟩ => ⟨S160000, .i32⟩
  | .hbm, ⟨63, _⟩ => ⟨S160000, .i32⟩
  | .hbm, ⟨64, _⟩ => ⟨S160000, .i32⟩
  | .hbm, ⟨65, _⟩ => ⟨S160000x1, .i32⟩
  | .hbm, ⟨66, _⟩ => ⟨S160000x128, .f32⟩
  | .hbm, ⟨67, _⟩ => ⟨S160000x128x1, .f32⟩
  | .hbm, ⟨68, _⟩ => ⟨S160000x1x4, .f32⟩
  | .hbm, ⟨69, _⟩ => ⟨S160000x128x4, .f32⟩
  | .hbm, ⟨70, _⟩ => ⟨S160000x128x4, .f32⟩
  | .hbm, ⟨71, _⟩ => ⟨S160000x128x4, .f32⟩
  | .hbm, ⟨72, _⟩ => ⟨S160000x128x1, .f32⟩
  | .hbm, ⟨73, _⟩ => ⟨S160000x128, .f32⟩
  | .hbm, ⟨74, _⟩ => ⟨S160000x256, .f32⟩
  | .hbm, ⟨75, _⟩ => ⟨S160000x128x3, .f32⟩
  | .hbm, ⟨76, _⟩ => ⟨S_, .f32⟩
  | .hbm, ⟨77, _⟩ => ⟨S10000x256, .f32⟩
  | .hbm, ⟨78, _⟩ => ⟨S160000x1, .i32⟩
  | .hbm, ⟨79, _⟩ => ⟨S10000x256, .f32⟩
  | .hbm, ⟨80, _⟩ => ⟨S160000x384, .f32⟩
  | .hbm, ⟨81, _⟩ => ⟨S_, .f32⟩
  | .hbm, ⟨82, _⟩ => ⟨S10000x384, .f32⟩
  | .hbm, ⟨83, _⟩ => ⟨S160000x1, .i32⟩
  | .hbm, ⟨84, _⟩ => ⟨S10000x384, .f32⟩
  | .hbm, ⟨85, _⟩ => ⟨S10000x128x3, .f32⟩
  | .hbm, ⟨86, _⟩ => ⟨S_, .f32⟩
  | .hbm, ⟨87, _⟩ => ⟨S10000x256, .f32⟩
  | .hbm, ⟨88, _⟩ => ⟨S10000x256, .f32⟩
  | .hbm, ⟨89, _⟩ => ⟨S_, .f32⟩
  | .hbm, ⟨90, _⟩ => ⟨S10000x128x3, .f32⟩
  | .hbm, ⟨91, _⟩ => ⟨S10000x128x3, .f32⟩
  | .hbm, ⟨92, _⟩ => ⟨S10000x128, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S10000x128, .f32⟩
  | .hbm, ⟨97, _⟩ => ⟨S10000x128, .f32⟩
  | .hbm, ⟨98, _⟩ => ⟨S64x10000x3, .f32⟩
  | .hbm, ⟨99, _⟩ => ⟨S10000x64x3, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S10000x64x3, .f32⟩
  | .hbm, ⟨104, _⟩ => ⟨S10000x64x3, .f32⟩
  | .hbm, ⟨105, _⟩ => ⟨S10000x128, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S10000x128, .f32⟩
  | .hbm, ⟨110, _⟩ => ⟨S10000x128, .f32⟩
  | .hbm, ⟨111, _⟩ => ⟨S10000x128, .f32⟩
  | .hbm, ⟨112, _⟩ => ⟨S10000x192, .f32⟩
  | .hbm, ⟨113, _⟩ => ⟨S10000x320, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_call0_v0 : Ref sig .tc := ⟨.hbm, 26, rfl⟩
abbrev main_call0_cst : Ref sig .tc := ⟨.hbm, 27, rfl⟩
abbrev main_call0_v1 : Ref sig .tc := ⟨.hbm, 28, rfl⟩
abbrev main_call0_v2 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_7 : Ref sig .tc := ⟨.hbm, 58, rfl⟩
abbrev main_v38 : Ref sig .tc := ⟨.hbm, 59, rfl⟩
abbrev main_v39 : Ref sig .tc := ⟨.hbm, 60, rfl⟩
abbrev main_c_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_10 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_11 : Ref sig .tc := ⟨.hbm, 86, rfl⟩
abbrev main_v62 : Ref sig .tc := ⟨.hbm, 87, rfl⟩
abbrev main_v63 : Ref sig .tc := ⟨.hbm, 88, rfl⟩
abbrev main_cst_12 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_13 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_14 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_15 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩

abbrev nD : Nat := 1
abbrev τ : Topo := Topo.v7x

variable {F : FTy → Type} [FloatOps F]
-- ==== Proof.Transfer.lean ====
module

public import proofs.«01_k».proof.Defs
public import proofs.«01_k».proof.Proof.Gen.Kernel
public import proofs.«01_k».proof.Proof.Gen.KernelIdeal
public import Idealize.ShloMosaic.Lib.Pipeline.Regions

/-!
The kernel and its idealization are one program: no operation was replaced, so what is proved of the second's runs holds of the first's.
-/

@[expose] public section

noncomputable section

namespace Cert.Proof

open Idealize.ShloMosaic Idealize.SL.Sem

/-- The two main programs are the same. -/
theorem same_main :
    (letI := Cert.Kernel.Gen.facts; Cert.Kernel.main (F := Bits)) = (letI := Cert.KernelIdeal.Gen.facts; Cert.KernelIdeal.main (F := Bits)) := by chain_rfl

/-- The two programs' definitions are the same. -/
theorem same_defs :
    (letI := Cert.Kernel.Gen.facts; Cert.Kernel.defs (F := Bits)) = (letI := Cert.KernelIdeal.Gen.facts; Cert.KernelIdeal.defs (F := Bits)) := by chain_rfl

end Cert.Proof

end
-- ==== Proof.EdgeTrip.lean ====
/-
  The edge kernel's body, as a function of blocks.

  One trip of the body's loop reads one edge (its sender's and its receiver's word), makes the edge's message row from the two
  nodes' positions and the sender's projected features, and adds that row to the receiver's row of the accumulator. This module
  states what a trip leaves in the accumulator, runs one trip, and runs the body: the accumulator cleared at the first point of a
  half of the edges, then the trips in order.
-/
module

public import proofs.«01_k».proof.Proof.Gen.KernelIdeal.Loops
public import proofs.«01_k».proof.Proof.Gen.KernelIdeal.Launch
public import Idealize.ShloMosaic.Lib.VecWindow
public import Idealize.ShloMosaic.Lib.ValueIdxCore
public import Idealize.ShloMosaic.Lib.LaneScatter.Own

@[expose] public section

noncomputable section

namespace Cert.Proof.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.LaneScatter (owns_raw raw_owns)

variable {F : FTy → Type} [FloatOps F]

local notation "𝕄" => MT nD τ sig Unit (Elt F) ℕ (UR sig nD τ) ℕ

/-! ## One trip as a function -/

/-- Edge `k`'s word in a block of 2000 words. -/
def word (X : S1x1x2000.Idx → BitVec 32) (k : Fin k1_t1_loop.trips) : BitVec 32 :=
  X ((Rect.unit (s := S1x1x2000) (k1_off1 k) S1x1x1.size (k1_off1_inb k)).emb (Shape.Idx.first numel1_S1x1x1.symm.le))

/-- The row of the accumulator after the trip of an edge from node `s` to node `r`: the row before it plus the edge's message. -/
def newRow (P : S10000x4.Idx → F .f32) (G : S10000x192.Idx → F .f32) (s r : BitVec 32) (hs : k1_chk1 s) (hr : k1_chk2 r)
    (A : S1x10000x320.Idx → F .f32) : S1x1x320.Idx → F .f32 :=
  k1_pay2 (k1_pay3 (VecWindow.window P (k1_off2 s) S1x4.size (k1_off2_inb s hs)) (VecWindow.window P (k1_off3 r) S1x4.size (k1_off3_inb r hr))
    (VecWindow.window G (k1_off4 s) S1x192.size (k1_off4_inb s hs)) (VecWindow.window A (k1_off5 r) S1x1x320.size (k1_off5_inb r hr)))

/-- The accumulator after the trip: the receiver's row replaced (the accumulator itself if a word names no node). -/
def tripOut (P : S10000x4.Idx → F .f32) (G : S10000x192.Idx → F .f32) (s r : BitVec 32) (A : S1x10000x320.Idx → F .f32) :
    S1x10000x320.Idx → F .f32 :=
  if h : k1_chk1 s ∧ k1_chk2 r then VecWindow.put A (k1_off5 r) S1x1x320.size (newRow P G s r h.1 h.2 A) else A

/-- The accumulator after the first `n` trips over the words `S` (senders) and `R` (receivers). -/
def tripsOut (S R : S1x1x2000.Idx → BitVec 32) (P : S10000x4.Idx → F .f32) (G : S10000x192.Idx → F .f32) (A : S1x10000x320.Idx → F .f32) :
    ℕ → S1x10000x320.Idx → F .f32
  | 0 => A
  | n + 1 => if h : n < k1_t1_loop.trips then tripOut P G (word S ⟨n, h⟩) (word R ⟨n, h⟩) (tripsOut S R P G A n) else tripsOut S R P G A n

theorem tripsOut_succ (S R : S1x1x2000.Idx → BitVec 32) (P : S10000x4.Idx → F .f32) (G : S10000x192.Idx → F .f32)
    (A : S1x10000x320.Idx → F .f32) (k : Fin k1_t1_loop.trips) :
    tripsOut S R P G A (k.val + 1) = tripOut P G (word S k) (word R k) (tripsOut S R P G A k.val) := by
  rw [tripsOut, dif_pos k.isLt]

/-- Every word of the two blocks names a node. -/
def WordsOk (S R : S1x1x2000.Idx → BitVec 32) : Prop := ∀ k, k1_chk1 (word S k) ∧ k1_chk2 (word R k)

/-! ## One trip, run -/

section Run

variable (𝒱 : Variants) (c : Dev nD) (bd : Option 𝒱.V) (E : Set ℕ) (i : grid1.Coords)
  (arg2 : Memref sig .tc .smem S1x1x2000 .i32) (harg2 : arg2.IsWhole) (arg3 : Memref sig .tc .smem S1x1x2000 .i32) (harg3 : arg3.IsWhole)
  (arg4 : Memref sig .tc .vmem S10000x4 .f32) (harg4 : arg4.IsWhole) (arg5 : Memref sig .tc .vmem S10000x192 .f32) (harg5 : arg5.IsWhole)
  (arg6 : Memref sig .tc .vmem S1x10000x320 .f32) (harg6 : arg6.IsWhole)
  (S R : S1x1x2000.Idx → BitVec 32) (P : S10000x4.Idx → F .f32) (G : S10000x192.Idx → F .f32)

/-- The five blocks of the body, owned: the accumulator at `A`. -/
abbrev Blocks (A : S1x10000x320.Idx → F .f32) : sProp 𝕄 :=
  iprop(owns (c : Thread nD τ) arg2 fullShare (S : S1x1x2000.Idx → Elt F .i32) ∗ owns (c : Thread nD τ) arg3 fullShare (R : S1x1x2000.Idx → Elt F .i32)
    ∗ owns (c : Thread nD τ) arg4 fullShare (P : S10000x4.Idx → Elt F .f32) ∗ owns (c : Thread nD τ) arg5 fullShare (G : S10000x192.Idx → Elt F .f32)
    ∗ owns (c : Thread nD τ) arg6 fullShare (A : S1x10000x320.Idx → Elt F .f32))

set_option maxHeartbeats 4000000 in
/-- One trip takes the accumulator from `A` to `tripOut … A`. -/
theorem trip_run (k : Fin k1_t1_loop.trips) (hs : k1_chk1 (word S k)) (hr : k1_chk2 (word R k)) (A : S1x10000x320.Idx → F .f32) :
    Blocks (F := F) c arg2 arg3 arg4 arg5 arg6 S R P G A
      ⊢ wp frame (wpE (defs₀ (F := F)) 𝒱 (c : Thread nD τ) bd) E
          (k1_t1_body (F := F) i arg2 harg2 arg3 harg3 arg4 harg4 arg5 harg5 arg6 harg6 k PUnit.unit)
          (fun _ => Blocks (F := F) c arg2 arg3 arg4 arg5 arg6 S R P G (tripOut P G (word S k) (word R k) A)) := by
  unfold Blocks owns
  iintro ⟨⟨%f2, %h2, H2⟩, ⟨%f3, %h3, H3⟩, ⟨%f4, %h4, H4⟩, ⟨%f5, %h5, H5⟩, ⟨%f6, %h6, H6⟩⟩
  have k1_hw1 : k1_chk1 (arg2.view.readAt (Elt F) (Rect.unit (s := S1x1x2000) (k1_off1 k) S1x1x1.size (k1_off1_inb k)).toLoadRect f2
      (Shape.Idx.first numel1_S1x1x1.symm.le)) := by subst h2; exact hs
  have k1_hw2 : k1_chk2 (arg3.view.readAt (Elt F) (Rect.unit (s := S1x1x2000) (k1_off1 k) S1x1x1.size (k1_off1_inb k)).toLoadRect f3
      (Shape.Idx.first numel1_S1x1x1.symm.le)) := by subst h3; exact hr
  unfold k1_t1_body
  sl_exec
  sl_step
  isplitl [H2]; · iexists f2; isplitr; · ipureintro; exact h2
                  iexact H2
  isplitl [H3]; · iexists f3; isplitr; · ipureintro; exact h3
                  iexact H3
  isplitl [H4]; · iexists f4; isplitr; · ipureintro; exact h4
                  iexact H4
  isplitl [H5]; · iexists f5; isplitr; · ipureintro; exact h5
                  iexact H5
  iexists _; isplitr; swap; · iexact H6
  ipureintro
  subst h2 h3 h4 h5 h6
  rw [View.read_writes_cons_put _ _ _ _ _ rfl]
  unfold tripOut
  rw [dif_pos ⟨hs, hr⟩]
  rfl

/-! ## The body, run -/

/-- The loop and the return after it. -/
theorem loop_run (hok : WordsOk S R) (A : S1x10000x320.Idx → F .f32) (Q : PUnit → sProp 𝕄) :
    iprop(Blocks (F := F) c arg2 arg3 arg4 arg5 arg6 S R P G A
        ∗ (Blocks (F := F) c arg2 arg3 arg4 arg5 arg6 S R P G (tripsOut S R P G A k1_t1_loop.trips) -∗ Q ⟨⟩))
      ⊢ wp frame (wpE (defs₀ (F := F)) 𝒱 (c : Thread nD τ) bd) E
          (do
            Scf.Loop.for k1_t1_loop k1_t1_ok ⟨⟩ (k1_t1_body (F := F) i arg2 harg2 arg3 harg3 arg4 harg4 arg5 harg5 arg6 harg6)
            pure ⟨⟩) Q := by
  iintro ⟨HB, Hk⟩
  iapply (Scf.wp_for_bind frame (wpE (defs₀ (F := F)) 𝒱 (c : Thread nD τ) bd) E _ _ _ k1_t1_ok _ _
    (fun n _ => Blocks (F := F) c arg2 arg3 arg4 arg5 arg6 S R P G (tripsOut S R P G A n))
    (fun k acc => by
      rw [tripsOut_succ]
      exact trip_run 𝒱 c bd E i arg2 harg2 arg3 harg3 arg4 harg4 arg5 harg5 arg6 harg6 S R P G k (hok k).1 (hok k).2 _)) $$ [HB]
  · iexact HB
  iintro %acc HB
  rw [wp_pure]
  imodintro
  iapply Hk
  iexact HB

/-- The accumulator as the trips find it: cleared at the first point of a half of the edges, else as it was. -/
def start (A : S1x10000x320.Idx → F .f32) : S1x10000x320.Idx → F .f32 := if (i 1).val = 0 then k1_pay1 else A

/-- The body's condition: this point is the first of its half. -/
theorem first_iff : Scalar.cmpi .ne (Scalar.extui (Scalar.cmpi .eq (BitVec.ofNat 32 (i 1).val) 0#32) : BitVec 32) 0#32 = 1#1 ↔ (i 1).val = 0 := by
  have h : ∀ j : Fin 40, Scalar.cmpi .ne (Scalar.extui (Scalar.cmpi .eq (BitVec.ofNat 32 j.val) 0#32) : BitVec 32) 0#32 = 1#1 ↔ j.val = 0 := by
    decide
  exact h (i 1)

set_option maxHeartbeats 4000000 in
/-- The body takes the accumulator from `A` to all 2000 trips over `start i A`. -/
theorem body_run (hok : WordsOk S R) (A : S1x10000x320.Idx → F .f32) (Q : PUnit → sProp 𝕄) :
    iprop(Blocks (F := F) c arg2 arg3 arg4 arg5 arg6 S R P G A
        ∗ (Blocks (F := F) c arg2 arg3 arg4 arg5 arg6 S R P G (tripsOut S R P G (start i A) k1_t1_loop.trips) -∗ Q ⟨⟩))
      ⊢ wp frame (wpE (defs₀ (F := F)) 𝒱 (c : Thread nD τ) bd) E
          (cc1__edge_body (F := F) i arg2 harg2 arg3 harg3 arg4 harg4 arg5 harg5 arg6 harg6) Q := by
  rw [cc1__edge_body_eq_skeleton]
  unfold cc1__edge_body_skel
  by_cases h : Scalar.cmpi .ne (Scalar.extui (Scalar.cmpi .eq (BitVec.ofNat 32 (i 1).val) 0#32) : BitVec 32) 0#32 = 1#1
  · have hs : start i A = k1_pay1 := if_pos ((first_iff i).mp h)
    rw [hs]
    unfold Blocks owns
    iintro ⟨⟨H2, H3, H4, H5, ⟨%f6, %h6, H6⟩⟩, Hk⟩
    sl_exec
    iapply (loop_run 𝒱 c bd E i arg2 harg2 arg3 harg3 arg4 harg4 arg5 harg5 arg6 harg6 S R P G hok k1_pay1 Q)
    unfold Blocks owns
    isplitr [Hk]; swap; · iexact Hk
    isplitl [H2]; · iexact H2
    isplitl [H3]; · iexact H3
    isplitl [H4]; · iexact H4
    isplitl [H5]; · iexact H5
    iexists _; isplitr; swap; · iexact H6
    ipureintro
    sl_unfold_words
    exact View.read_writes_full _ _ _ _ _
  · have hs : start i A = A := if_neg fun e => h ((first_iff i).mpr e)
    rw [hs]
    iintro HBk
    sl_exec
    iapply (loop_run 𝒱 c bd E i arg2 harg2 arg3 harg3 arg4 harg4 arg5 harg5 arg6 harg6 S R P G hok A Q)
    iexact HBk

end Run

end Cert.Proof.Edge

end
-- ==== Proof.EdgeRegion.lean ====
/-
  The edge kernel's call: what its grid of 80 points leaves.

  Point `t` runs the body over block `t` of the senders' and receivers' words. The accumulator's block stays in place over the 40
  points of one half of the edges and is written back at the last of them.
-/
module

public import proofs.«01_k».proof.Proof.EdgeTrip
public import proofs.«01_k».proof.Proof.Gen.KernelIdeal.Points
public import Idealize.ShloMosaic.Lib.Pipeline.FrameBody
public import Idealize.ShloMosaic.Lib.Pipeline.Regions

@[expose] public section

noncomputable section

namespace Cert.Proof.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (W : Valuation τ sig (Elt F))

/-! ## What the points leave, from the arrays' contents `W` at entry -/

/-- The block of senders' words point `t` reads. -/
def senders (t : Fin cfg1.N) : S1x1x2000.Idx → BitVec 32 := ((cfg1.win 0).blk t).view.read (Elt F) (W main_v25)
/-- The block of receivers' words point `t` reads. -/
def receivers (t : Fin cfg1.N) : S1x1x2000.Idx → BitVec 32 := ((cfg1.win 1).blk t).view.read (Elt F) (W main_v26)
/-- The positions, as point `t` reads them. -/
def positions (t : Fin cfg1.N) : S10000x4.Idx → F .f32 := ((cfg1.win 2).blk t).view.read (Elt F) (W main_v24)
/-- The projected features, as point `t` reads them. -/
def features (t : Fin cfg1.N) : S10000x192.Idx → F .f32 := ((cfg1.win 3).blk t).view.read (Elt F) (W main_v23_0)

/-- What point `t` leaves in the accumulator it finds at `A`. -/
def pointOut (t : Fin cfg1.N) (A : S1x10000x320.Idx → F .f32) : S1x10000x320.Idx → F .f32 :=
  tripsOut (senders W t) (receivers W t) (positions W t) (features W t) A k1_t1_loop.trips

/-- What the accumulator holds after point `n`: the point's trips over zeros at the first point of a half, else over what the point
    before left. -/
def accAt : (n : ℕ) → n < cfg1.N → S1x10000x320.Idx → F .f32
  | 0, h => pointOut W ⟨0, h⟩ k1_pay1
  | n + 1, h => pointOut W ⟨n + 1, h⟩ (if (n + 1) % 40 = 0 then k1_pay1 else accAt n (Nat.lt_of_succ_lt h))

/-- Every word of every block names a node. -/
def AllWordsOk : Prop := ∀ t, WordsOk (senders W t) (receivers W t)

/-! ## The proof data -/

/-- The call's proof data on core `c`: the arrays at `W`; after each point the inputs' buffers at their blocks and the
    accumulator's at `accAt`; nothing owed. -/
def dat (c : Dev nD) : Dat τ (Elt F) Unit ℕ (UR sig nD τ) ℕ cfg1 c where
  A w := W (Proc.devRef .tc (Pipeline.arrRef spec1 w))
  after w t := match w with
    | ⟨0, _⟩ => senders W t
    | ⟨1, _⟩ => receivers W t
    | ⟨2, _⟩ => positions W t
    | ⟨3, _⟩ => features W t
    | ⟨4, _⟩ => accAt W t.val t.isLt
  Φ _ := Pipeline.scopedRest (Ix := Unit) (Name := ℕ) (U := UR sig nD τ) (Lvl := ℕ) (Val := Elt F) spec1 c
  q _ := fullShare
  owed _ := 0

theorem before_0 (c : Dev nD) (t : Fin cfg1.N) (d) : (dat W c).before 0 t d = senders W t :=
  (dat W c).before_in_eq_fetched 0 rfl (fun _ => rfl) (fun _ _ _ => rfl) (fun _ => rfl) t d
theorem before_1 (c : Dev nD) (t : Fin cfg1.N) (d) : (dat W c).before 1 t d = receivers W t :=
  (dat W c).before_in_eq_fetched 1 rfl (fun _ => rfl) (fun _ _ _ => rfl) (fun _ => rfl) t d
theorem before_2 (c : Dev nD) (t : Fin cfg1.N) (d) : (dat W c).before 2 t d = positions W t :=
  (dat W c).before_in_eq_fetched 2 rfl (fun _ => rfl) (fun _ _ _ => rfl) (fun _ => rfl) t d
theorem before_3 (c : Dev nD) (t : Fin cfg1.N) (d) : (dat W c).before 3 t d = features W t :=
  (dat W c).before_in_eq_fetched 3 rfl (fun _ => rfl) (fun _ _ _ => rfl) (fun _ => rfl) t d

/-- The second grid coordinate of point `t`. -/
theorem coord_1 : ∀ t : Fin grid1.N, (grid1.coords t 1).val = t.val % 40 := by decide +kernel

/-- The trips of point `t` start from zeros at the first point of a half and from what the point before left otherwise. -/
theorem start_before (c : Dev nD) (t : Fin cfg1.N) (d) :
    pointOut W t (start (grid1.coords t) ((dat W c).before 4 t d)) = accAt W t.val t.isLt := by
  obtain ⟨n, hn⟩ := t
  have hc : (grid1.coords ⟨n, hn⟩ 1).val = n % 40 := coord_1 ⟨n, hn⟩
  unfold start
  rw [hc]
  match n, hn with
  | 0, hn => rfl
  | n + 1, hn =>
    by_cases h : (n + 1) % 40 = 0
    · rw [if_pos h]; unfold accAt; rw [if_pos h]
    · rw [if_neg h]
      conv_rhs => unfold accAt
      rw [if_neg h]
      refine congrArg _ ?_
      refine ((dat W c).before_out_kept 4 rfl ⟨n + 1, hn⟩ (Nat.succ_ne_zero n) ?_ (fun _ => rfl) (fun _ _ => rfl) d).trans rfl
      refine Bool.eq_false_iff.mpr fun e => h ?_
      have := (flush1_4 _).mp e
      dsimp only at this
      omega

set_option maxHeartbeats 4000000 in
/-- The body meets its obligation at every point. -/
theorem body_obligation (hW : AllWordsOk W) (c : Dev nD) : BodyObligation (dat W c) (defs₀ (F := F)) Variants.none () Set.univ := fun t => by
  rw [bigSep_W1, bigSep_W1]
  rw [show (dat W c).Φ t.succ = (dat W c).Φ t.castSucc from rfl,
    show (dat W c).owesAt () t.succ = (dat W c).owesAt () t.castSucc from rfl]
  iintro ⟨HΦ, Howes, ⟨%d0, H0⟩, ⟨%d1, H1⟩, ⟨%d2, H2⟩, ⟨%d3, H3⟩, ⟨%d4, H4⟩⟩
  rw [before_0, before_1, before_2, before_3]
  iapply (body_run (F := F) Variants.none c none Set.univ (grid1.coords t) (win1_0.stage (cfg1.slots t 0)) (hstage1_0 ((cfg1.slots t 0).cast nbuf1_0))
    (win1_1.stage (cfg1.slots t 1)) (hstage1_1 ((cfg1.slots t 1).cast nbuf1_1)) (win1_2.stage (cfg1.slots t 2)) (hstage1_2 ((cfg1.slots t 2).cast nbuf1_2))
    (win1_3.stage (cfg1.slots t 3)) (hstage1_3 ((cfg1.slots t 3).cast nbuf1_3)) (win1_4.stage (cfg1.slots t 4)) (hstage1_4 ((cfg1.slots t 4).cast nbuf1_4))
    (senders W t) (receivers W t) (positions W t) (features W t) (hW t) ((dat W c).before 4 t d4))
  unfold Blocks
  isplitl [H0 H1 H2 H3 H4]
  · isplitl [H0]; · iexact H0
    isplitl [H1]; · iexact H1
    isplitl [H2]; · iexact H2
    isplitl [H3]; · iexact H3
    iexact H4
  rw [show tripsOut (senders W t) (receivers W t) (positions W t) (features W t) (start (grid1.coords t) ((dat W c).before 4 t d4)) k1_t1_loop.trips
    = accAt W t.val t.isLt from start_before W c t d4]
  iintro ⟨H0, H1, H2, H3, H4⟩
  isplitl [HΦ]; · iexact HΦ
  isplitl [Howes]; · iexact Howes
  isplitl [H0]; · iexact H0
  isplitl [H1]; · iexact H1
  isplitl [H2]; · iexact H2
  isplitl [H3]; · iexact H3
  iexact H4

end Cert.Proof.Edge

end
-- ==== Proof.Words.lean ====
/-
  The edge kernel's words: which edge each word of a block is, and that every word names a node.
-/
module

public import proofs.«01_k».proof.Defs
public import proofs.«01_k».proof.Proof.EdgeRegion
public import proofs.«01_k».proof.Proof.Gen.KernelIdeal.Regions
public import Idealize.ShloMosaic.Lib.Claim
public import Idealize.ShloMosaic.Lib.Affine
public import Idealize.ShloMosaic.Lib.Pipeline.ValueKit.Geometry

@[expose] public section

noncomputable section

namespace Cert.Proof.Edge

open Cert.KernelIdeal Cert.KernelIdeal.Gen
open Idealize.ShloMosaic Idealize.ShloMosaic.TcCoe Idealize.ShloMosaic.ValueIdx

variable {F : FTy → Type} [FloatOps F]

/-- The two preconditions' shape relations. -/
theorem facts_edges : Cert.Pre_edges_name_nodes.Facts := ⟨by decide⟩
theorem facts_finite : Cert.Pre_finite_on_nodes.Facts := ⟨by decide, by decide, by decide, by decide⟩

/-! ## Words that name nodes -/

/-- A word at least 0 and below 10000, read signed, is a node's number. -/
theorem node_of_signed {x : BitVec 32} (h0 : IntOp.cmpi .sge x 0#32 = 1#1) (h1 : IntOp.cmpi .slt x 10000#32 = 1#1) : x.toNat < 10000 := by
  rw [IntOp.cmpi_sge] at h0
  rw [IntOp.cmpi_slt] at h1
  have e0 : (0#32 : BitVec 32).toInt = 0 := by decide
  have e1 : (10000#32 : BitVec 32).toInt = 10000 := by decide
  have := BitVec.toInt_eq_toNat_cond x
  omega

/-- What the range precondition says of each edge. -/
theorem nodes_of_pre (S R : IVec S160000 32)
    (h : ∀ e, IntOp.andi (IntOp.andi (IntOp.andi (IntOp.cmpi .sge (S e) 0#32) (IntOp.cmpi .slt (S e) 10000#32)) (IntOp.cmpi .sge (R e) 0#32))
      (IntOp.cmpi .slt (R e) 10000#32) = 1#1) : (∀ e, (S e).toNat < 10000) ∧ ∀ e, (R e).toNat < 10000 := by
  have g e := by
    have := h e
    rw [IntOp.andi_eq_one, IntOp.andi_eq_one, IntOp.andi_eq_one] at this
    exact this
  exact ⟨fun e => node_of_signed (g e).1.1.1 (g e).1.1.2, fun e => node_of_signed (g e).1.2 (g e).2⟩

/-- A node's word passes the checks of the sender's loads. -/
theorem chk1_of_node {x : BitVec 32} (h : x.toNat < 10000) : k1_chk1 x := by
  have e : (Scalar.indexCast x : Index).toNat = x.toNat := by simp [Scalar.indexCast]
  constructor <;> intro a <;> fin_cases a <;> simp [k1_off2, k1_off4, e, S1x4, S10000x4, S1x192, S10000x192] <;> omega

/-- A node's word passes the checks of the receiver's accesses. -/
theorem chk2_of_node {x : BitVec 32} (h : x.toNat < 10000) : k1_chk2 x := by
  have e : (Scalar.indexCast x : Index).toNat = x.toNat := by simp [Scalar.indexCast]
  constructor <;> intro a <;> fin_cases a <;> simp [k1_off3, k1_off5, e, S1x4, S10000x4, S1x1x320, S1x10000x320] <;> omega

/-! ## Which edge a word is -/

variable (m : (ℓ : Loc nD τ sig) → Buf (Elt F) ℓ) (outs : Outs (F := F)) (c : Dev nD)

theorem index1_0 : ∀ t : Fin grid1.N, win1_0.index t = ![t.val, 0, 0] := by decide +kernel
theorem index1_1 : ∀ t : Fin grid1.N, win1_1.index t = ![t.val, 0, 0] := by decide +kernel

/-- Edge `j` of point `t`. -/
def edge (t : Fin cfg1.N) (j : Fin 2000) : S160000.Idx :=
  ix1 ⟨t.val * 2000 + j.val, by have := t.isLt; have := j.isLt; have : cfg1.N = 80 := N_1; show _ < 160000; omega⟩

theorem V4_arg2 : V4 m outs c main_arg2 = m ((c : Thread nD τ).loc main_arg2) :=
  (V4_of m outs c main_arg2 (by decide)).trans <| (V3_of m outs c main_arg2 (by decide)).trans <| (V2_of m outs c main_arg2 (by decide)).trans <|
    (V1_of m c main_arg2 (by decide)).trans rfl
theorem V4_arg3 : V4 m outs c main_arg3 = m ((c : Thread nD τ).loc main_arg3) :=
  (V4_of m outs c main_arg3 (by decide)).trans <| (V3_of m outs c main_arg3 (by decide)).trans <| (V2_of m outs c main_arg3 (by decide)).trans <|
    (V1_of m c main_arg3 (by decide)).trans rfl

/-- The senders' words as the call finds them: the argument, in rows of 2000. -/
theorem V5_v25 : V5 m outs c main_v25
    = (shapeCast S80x1x2000 (m ((c : Thread nD τ).loc main_arg2)) shapeCasts_S160000_S80x1x2000 : S80x1x2000.Idx → BitVec 32) := by
  rw [← V4_arg2 m outs c]; unfold V5; after_results; rfl
/-- The receivers' words as the call finds them. -/
theorem V5_v26 : V5 m outs c main_v26
    = (shapeCast S80x1x2000 (m ((c : Thread nD τ).loc main_arg3)) shapeCasts_S160000_S80x1x2000 : S80x1x2000.Idx → BitVec 32) := by
  rw [← V4_arg3 m outs c]; unfold V5; after_results; rfl

/-- Rows of 2000, at a place of row `t`. -/
theorem rows_apply (x : S160000.Idx → BitVec 32) (t : Fin cfg1.N) (i : S80x1x2000.Idx) (j : Fin 2000) (h0 : (i 0).val = t.val) (h2 : (i 2).val = j.val) :
    shapeCast S80x1x2000 x shapeCasts_S160000_S80x1x2000 i = x (edge t j) := by
  refine shapeCast_apply x _ i (edge t j) ?_
  rw [Shape.rowMajor_val_one, Shape.rowMajor_val_three]
  have h1 : (i 1).val = 0 := Nat.lt_one_iff.mp (i 1).isLt
  show t.val * 2000 + j.val = ((i 0).val * 1 + (i 1).val) * 2000 + (i 2).val
  omega

theorem senders_apply (t : Fin cfg1.N) (i : S1x1x2000.Idx) : senders (V5 m outs c) t i = m ((c : Thread nD τ).loc main_arg2) (edge t (i 2)) := by
  unfold senders
  rw [V5_v25]
  refine rows_apply _ t _ (i 2) ?_ ?_
  · blk_simp [index1_0]
  · blk_simp [index1_0]

theorem receivers_apply (t : Fin cfg1.N) (i : S1x1x2000.Idx) : receivers (V5 m outs c) t i = m ((c : Thread nD τ).loc main_arg3) (edge t (i 2)) := by
  unfold receivers
  rw [V5_v26]
  refine rows_apply _ t _ (i 2) ?_ ?_
  · blk_simp [index1_1]
  · blk_simp [index1_1]

/-- Arguments whose words all name nodes give blocks whose words all do. -/
theorem allWordsOk (hS : ∀ e, (m ((c : Thread nD τ).loc main_arg2) e : BitVec 32).toNat < 10000)
    (hR : ∀ e, (m ((c : Thread nD τ).loc main_arg3) e : BitVec 32).toNat < 10000) : AllWordsOk (V5 m outs c) := fun t k => by
  unfold word
  rw [senders_apply, receivers_apply]
  exact ⟨chk1_of_node (hS _), chk2_of_node (hR _)⟩

end Cert.Proof.Edge

end
-- ==== Proof.DenseRegion.lean ====
/-
  The dense kernel's call: 25 points, each projecting a block of 400 rows of the features by two weight matrices.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.VecWindow
public import Idealize.ShloMosaic.Lib.LaneScatter.Own
public import Idealize.ShloMosaic.Lib.Tactic
public import Idealize.ShloMosaic.Lib.Pipeline.FrameBody
public import Idealize.ShloMosaic.Lib.Pipeline.Regions

@[expose] public section

noncomputable section

namespace Cert.Proof.Dense

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-! ## The body, run -/

section Run

variable (𝒱 : Variants) (c : Dev nD) (bd : Option 𝒱.V) (E : Set ℕ) (i : grid0.Coords)
  (arg1 : Memref sig .tc .vmem S400x128 .f32) (harg1 : arg1.IsWhole) (arg2 : Memref sig .tc .vmem S128x192 .f32) (harg2 : arg2.IsWhole)
  (arg3 : Memref sig .tc .vmem S128x128 .f32) (harg3 : arg3.IsWhole) (arg4 : Memref sig .tc .vmem S400x192 .f32) (harg4 : arg4.IsWhole)
  (arg5 : Memref sig .tc .vmem S400x128 .f32) (harg5 : arg5.IsWhole)
  (X : S400x128.Idx → F .f32) (U : S128x192.Idx → F .f32) (V : S128x128.Idx → F .f32)

/-- The five blocks of the body, owned: the two results' at `B` and `C`. -/
abbrev Blocks (B : S400x192.Idx → F .f32) (C : S400x128.Idx → F .f32) : sProp 𝕄 :=
  iprop(owns (c : Thread nD τ) arg1 fullShare (X : S400x128.Idx → Elt F .f32) ∗ owns (c : Thread nD τ) arg2 fullShare (U : S128x192.Idx → Elt F .f32)
    ∗ owns (c : Thread nD τ) arg3 fullShare (V : S128x128.Idx → Elt F .f32) ∗ owns (c : Thread nD τ) arg4 fullShare (B : S400x192.Idx → Elt F .f32)
    ∗ owns (c : Thread nD τ) arg5 fullShare (C : S400x128.Idx → Elt F .f32))

set_option maxHeartbeats 4000000 in
/-- The body leaves the two products of the rows' block. -/
theorem body_run (B : S400x192.Idx → F .f32) (C : S400x128.Idx → F .f32) (Q : PUnit → sProp 𝕄) :
    iprop(Blocks (F := F) c arg1 arg2 arg3 arg4 arg5 X U V B C
        ∗ (Blocks (F := F) c arg1 arg2 arg3 arg4 arg5 X U V (k0_pay1 X U) (k0_pay2 X V) -∗ Q ⟨⟩))
      ⊢ wp frame (wpE (defs₀ (F := F)) 𝒱 (c : Thread nD τ) bd) E
          (cc0__dense_body (F := F) i arg1 harg1 arg2 harg2 arg3 harg3 arg4 harg4 arg5 harg5) Q := by
  rw [cc0__dense_body_eq_skeleton]
  unfold cc0__dense_body_skel Blocks owns
  iintro ⟨⟨⟨%f1, %h1, H1⟩, ⟨%f2, %h2, H2⟩, ⟨%f3, %h3, H3⟩, ⟨%f4, %h4, H4⟩, ⟨%f5, %h5, H5⟩⟩, Hk⟩
  sl_exec
  sl_step
  iapply Hk
  isplitl [H1]; · iexists f1; isplitr; · ipureintro; exact h1
                  iexact H1
  isplitl [H2]; · iexists f2; isplitr; · ipureintro; exact h2
                  iexact H2
  isplitl [H3]; · iexists f3; isplitr; · ipureintro; exact h3
                  iexact H3
  subst h1 h2 h3
  isplitl [H4]
  · iexists _; isplitr; swap; · iexact H4
    ipureintro
    sl_unfold_words
    rw [View.read_writes_full, View.readAt_full, View.readAt_full]
  · iexists _; isplitr; swap; · iexact H5
    ipureintro
    sl_unfold_words
    rw [View.read_writes_full, View.readAt_full, View.readAt_full]

end Run

/-! ## The proof data -/

variable (W : Valuation τ sig (Elt F))

/-- The block of the features' rows point `t` reads. -/
def rows (t : Fin cfg0.N) : S400x128.Idx → F .f32 := ((cfg0.win 0).blk t).view.read (Elt F) (W main_arg0)
/-- The edge weights, as point `t` reads them. -/
def edgeW (t : Fin cfg0.N) : S128x192.Idx → F .f32 := ((cfg0.win 1).blk t).view.read (Elt F) (W main_v19)
/-- The node weights, as point `t` reads them. -/
def nodeW (t : Fin cfg0.N) : S128x128.Idx → F .f32 := ((cfg0.win 2).blk t).view.read (Elt F) (W main_v22)

/-- The call's proof data on core `c`: the arrays at `W`; after each point the inputs' buffers at their blocks and the results' at
    the block's products; nothing owed. -/
def dat (c : Dev nD) : Dat τ (Elt F) Unit ℕ (UR sig nD τ) ℕ cfg0 c where
  A w := W (Proc.devRef .tc (Pipeline.arrRef spec0 w))
  after w t := match w with
    | ⟨0, _⟩ => rows W t
    | ⟨1, _⟩ => edgeW W t
    | ⟨2, _⟩ => nodeW W t
    | ⟨3, _⟩ => k0_pay1 (rows W t) (edgeW W t)
    | ⟨4, _⟩ => k0_pay2 (rows W t) (nodeW W t)
  Φ _ := Pipeline.scopedRest (Ix := Unit) (Name := ℕ) (U := UR sig nD τ) (Lvl := ℕ) (Val := Elt F) spec0 c
  q _ := fullShare
  owed _ := 0

theorem before_0 (c : Dev nD) (t : Fin cfg0.N) (d) : (dat W c).before 0 t d = rows W t :=
  (dat W c).before_in_eq_fetched 0 rfl (fun _ => rfl) (fun _ _ _ => rfl) (fun _ => rfl) t d
theorem before_1 (c : Dev nD) (t : Fin cfg0.N) (d) : (dat W c).before 1 t d = edgeW W t :=
  (dat W c).before_in_eq_fetched 1 rfl (fun _ => rfl) (fun _ _ _ => rfl) (fun _ => rfl) t d
theorem before_2 (c : Dev nD) (t : Fin cfg0.N) (d) : (dat W c).before 2 t d = nodeW W t :=
  (dat W c).before_in_eq_fetched 2 rfl (fun _ => rfl) (fun _ _ _ => rfl) (fun _ => rfl) t d

set_option maxHeartbeats 4000000 in
/-- The body meets its obligation at every point. -/
theorem body_obligation (c : Dev nD) : BodyObligation (dat W c) (defs₀ (F := F)) Variants.none () Set.univ := fun t => by
  rw [bigSep_W0, bigSep_W0]
  rw [show (dat W c).Φ t.succ = (dat W c).Φ t.castSucc from rfl,
    show (dat W c).owesAt () t.succ = (dat W c).owesAt () t.castSucc from rfl]
  iintro ⟨HΦ, Howes, ⟨%d0, H0⟩, ⟨%d1, H1⟩, ⟨%d2, H2⟩, ⟨%d3, H3⟩, ⟨%d4, H4⟩⟩
  rw [before_0, before_1, before_2]
  iapply (body_run (F := F) Variants.none c none Set.univ (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (win0_4.stage (cfg0.slots t 4)) (hstage0_4 ((cfg0.slots t 4).cast nbuf0_4))
    (rows W t) (edgeW W t) (nodeW W t) ((dat W c).before 3 t d3) ((dat W c).before 4 t d4))
  unfold Blocks
  isplitl [H0 H1 H2 H3 H4]
  · isplitl [H0]; · iexact H0
    isplitl [H1]; · iexact H1
    isplitl [H2]; · iexact H2
    isplitl [H3]; · iexact H3
    iexact H4
  iintro ⟨H0, H1, H2, H3, H4⟩
  isplitl [HΦ]; · iexact HΦ
  isplitl [Howes]; · iexact Howes
  isplitl [H0]; · iexact H0
  isplitl [H1]; · iexact H1
  isplitl [H2]; · iexact H2
  isplitl [H3]; · iexact H3
  iexact H4

end Cert.Proof.Dense

end
-- ==== Proof.Run.lean ====
/-
  The program's run: host lines, the dense call, host lines, the edge call, host lines.

  Every execution ends with the result's array at the last valuation of the chain, every argument as it began, and every semaphore
  at zero, given that the words of every block name nodes.
-/
module

public import proofs.«01_k».proof.Proof.DenseRegion
public import proofs.«01_k».proof.Proof.EdgeRegion
public import proofs.«01_k».proof.Proof.Gen.KernelIdeal.Regions
public import Idealize.ShloMosaic.Lib.Pipeline.RegionArraysS
public import Idealize.ShloMosaic.Lib.StableHlo.RunHlo

@[expose] public section

noncomputable section

namespace Cert.Proof.Run

open Cert.KernelIdeal Cert.KernelIdeal.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation RegionSeg Seg afterRegion)

variable {F : FTy → Type} [FloatOps F]

local notation "𝕄" => MT nD τ sig Unit (Elt F) ℕ (UR sig nD τ) ℕ

variable (m : (ℓ : Loc nD τ sig) → Buf (Elt F) ℓ)

/-! ## What the two calls leave -/

/-- What the dense call leaves. -/
def outsDense : Outs (F := F) := fun _ r c => afterRegion (Dense.dat (V1 m c) c) (V1 m c) (Proc.devRef .tc r)

/-- What each call leaves: the dense call from the first host lines' valuation, the edge call from the second's. -/
def outs : Outs (F := F) := fun J r c =>
  if J = 2 then outsDense m J r c
  else afterRegion (Edge.dat (V5 m (outsDense m) c) c) (V5 m (outsDense m) c) (Proc.devRef .tc r)

theorem outs_2 (r : Ref sig .tc) (c : Dev nD) : outs m 2 r c = outsDense m 2 r c := if_pos rfl
theorem outs_6 (r : Ref sig .tc) (c : Dev nD) :
    outs m 6 r c = afterRegion (Edge.dat (V5 m (outsDense m) c) c) (V5 m (outsDense m) c) (Proc.devRef .tc r) := if_neg (by decide)

theorem V2_outs (c : Dev nD) : V2 m (outs m) c = V2 m (outsDense m) c := by unfold V2; rw [outs_2, outs_2]
theorem V5_outs (c : Dev nD) : V5 m (outs m) c = V5 m (outsDense m) c := by unfold V5 V4 V3; rw [V2_outs]

/-- The calls' proof data. -/
def pdats : (p : Fin 2) → (c : Dev nD) → Dat τ (Elt F) Unit ℕ (UR sig nD τ) ℕ (cfgs p) c
  | ⟨0, _⟩ => fun c => Dense.dat (V1 m c) c
  | ⟨1, _⟩ => fun c => Edge.dat (V5 m (outs m) c) c

/-! ## The calls as segments -/

/-- The waits' levels: every staging semaphore at one level, nothing ever owed. -/
def L : GSem nD τ sig → Finset Unit := fun g => if g.1.2 = .tc then {()} else ∅
abbrev lv : GSem nD τ sig → Unit → ℕ := fun _ _ => 0

theorem levelCut (p : Fin 2) : Pipeline.LevelCut (pcfgs (F := F)) adm () L lv p (fun _ : Dev nD => (0 : CellTallies nD τ sig Unit)) (fun _ => 0) where
  hι _ _ _ := by unfold L; rw [if_pos rfl]; exact Finset.mem_singleton_self _
  hιb _ _ _ := le_rfl
  hD _ _ _ h := absurd h (lt_irrefl 0)

/-- What rides beside the buffers between two items: the core owing nothing. -/
def rest (c : Dev nD) : sProp 𝕄 :=
  iprop((∃ Wd, owes (c : Thread nD τ) (0 : CellTallies nD τ sig Unit) Wd) ∗ BI.emp ∗ BI.emp)

set_option backward.isDefEq.respectTransparency.types false in
/-- The dense call's segment. -/
def regDense : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    (fun _ => BI.emp) (fun _ => BI.emp) launch0.toP rfl (fun c => (Dense.body_obligation (V1 m c) c).loose)
    (fun _ _ => rfl) (fun _ => rfl) (fun c w => (pdats m 0 c).share_full (fun _ => rfl) w)
    (fun c => show iprop(Pipeline.scopedRest spec0 c ∗ BI.emp) ⊢ (Pipeline.scopedRest spec0 c : sProp 𝕄) from by iintro ⟨H, -⟩; iexact H)
    (fun c => show (Pipeline.scopedRest spec0 c : sProp 𝕄) ⊢ iprop(Pipeline.scopedRest spec0 c ∗ BI.emp) from by
      iintro H; isplitl [H]; (· iexact H); iempintro)
    (fun _ => 0) (levelCut 0) (fun _ => BI.emp) (V1 m) (fun _ _ => rfl)

set_option backward.isDefEq.respectTransparency.types false in
/-- The edge call's segment. -/
def regEdge (hok : ∀ c, Edge.AllWordsOk (V5 m (outs m) c)) : RegionSeg (pcfgs (F := F)) adm (pdats m) () defs₀ Variants.none L lv 1 :=
  RegionSeg.ofHeldIn (pcfgs (F := F)) adm (pdats m) () defs₀ Variants.none L lv 1 (fun _ => 0) (Pipeline.ucRefs τ sig)
    (fun _ => BI.emp) (fun _ => BI.emp) launch1.toP rfl (fun c => (Edge.body_obligation (V5 m (outs m) c) (hok c) c).loose)
    (fun _ _ => rfl) (fun _ => rfl) (fun c w => (pdats m 1 c).share_full (fun _ => rfl) w)
    (fun c => show iprop(Pipeline.scopedRest spec1 c ∗ BI.emp) ⊢ (Pipeline.scopedRest spec1 c : sProp 𝕄) from by iintro ⟨H, -⟩; iexact H)
    (fun c => show (Pipeline.scopedRest spec1 c : sProp 𝕄) ⊢ iprop(Pipeline.scopedRest spec1 c ∗ BI.emp) from by
      iintro H; isplitl [H]; (· iexact H); iempintro)
    (fun _ => 0) (levelCut 1) (fun _ => BI.emp) (V5 m (outs m)) (fun _ _ => rfl)

/-- A buffer the dense call leaves, as the chain's valuation has it. -/
theorem V2_eq (c : Dev nD) (r : Ref sig .tc) :
    afterRegion (Dense.dat (V1 m c) c) (V1 m c) (Proc.devRef .tc r) = V2 m (outs m) c (Proc.devRef .tc r) := by
  by_cases h1 : r = main_v23_1
  · subst h1; rw [V2, Function.update_self]; exact (outs_2 m _ _).symm
  by_cases h0 : r = main_v23_0
  · subst h0
    rw [V2, Function.update_of_ne (StableHlo.devRef_ne_of_ne (by decide)), Function.update_self]; exact (outs_2 m _ _).symm
  rw [V2_of m (outs m) c r (by simp [h0, h1])]
  refine Pipeline.afterRegion_keeps _ _ launch0.win.arr_inj (fun _ => rfl) r fun w hw => ?_
  fin_cases w
  · rfl
  · rfl
  · rfl
  · exact absurd hw.symm h0
  · exact absurd hw.symm h1

/-- A buffer the edge call leaves, as the chain's valuation has it. -/
theorem V6_eq (c : Dev nD) (r : Ref sig .tc) :
    afterRegion (Edge.dat (V5 m (outs m) c) c) (V5 m (outs m) c) (Proc.devRef .tc r) = V6 m (outs m) c (Proc.devRef .tc r) := by
  by_cases h0 : r = main_v27
  · subst h0; rw [V6, Function.update_self, outs_6, V5_outs]
  rw [V6_of m (outs m) c r (by simp [h0])]
  refine Pipeline.afterRegion_keeps _ _ launch1.win.arr_inj (fun _ => rfl) r fun w hw => ?_
  fin_cases w
  · rfl
  · rfl
  · rfl
  · rfl
  · exact absurd hw.symm h0

/-- Two valuations alike at the TensorCore's references hold the same unscoped buffers. -/
theorem held_alike (c : Dev nD) (V V' : Valuation τ sig (Elt F)) (h : ∀ r : Ref sig .tc, V (Proc.devRef .tc r) = V' (Proc.devRef .tc r)) :
    (StableHlo.held (c : Thread nD τ) (Pipeline.ucRefs τ sig) V : sProp 𝕄) = StableHlo.held (c : Thread nD τ) (Pipeline.ucRefs τ sig) V' := by
  refine StableHlo.held_congr (c : Thread nD τ) fun b hb => ?_
  obtain ⟨r, -, rfl⟩ := Finset.mem_map.mp (Finset.mem_filter.mp hb).1
  exact h r

set_option backward.isDefEq.respectTransparency.types false in
theorem pre_dense (c : Dev nD) : iprop(StableHlo.held (c : Thread nD τ) (Pipeline.ucRefs τ sig) (V1 m c) ∗ rest (F := F) c) ⊢ (regDense m).pre c :=
 by
  unfold regDense rest
  refine RegionSeg.ofHeldIn_pre (pcs := pcfgs (F := F)) (a := adm) (pdats := pdats m) (p := 0) (D := fun _ => 0)
    (S := Pipeline.ucRefs τ sig) (X := fun _ => BI.emp) (Y := fun _ => BI.emp) (R := fun _ => BI.emp) (W := V1 m) ?_ c
  exact Pipeline.arrRefs_sub_ucRefs _ launch0.win.arr_unscoped

set_option backward.isDefEq.respectTransparency.types false in
theorem post_dense (c : Dev nD) :
    (regDense m).post c ⊢ iprop(StableHlo.held (c : Thread nD τ) (Pipeline.ucRefs τ sig) (V2 m (outs m) c) ∗ rest (F := F) c) := by
  rw [← held_alike c _ _ (V2_eq m c)]
  unfold regDense rest
  exact RegionSeg.ofHeldIn_post (p := 0) (Pipeline.arrRefs_sub_ucRefs _ launch0.win.arr_unscoped) c

set_option backward.isDefEq.respectTransparency.types false in
theorem pre_edge (hok : ∀ c, Edge.AllWordsOk (V5 m (outs m) c)) (c : Dev nD) :
    iprop(StableHlo.held (c : Thread nD τ) (Pipeline.ucRefs τ sig) (V5 m (outs m) c) ∗ rest (F := F) c) ⊢ (regEdge m hok).pre c :=
 by
  unfold regEdge rest
  refine RegionSeg.ofHeldIn_pre (pcs := pcfgs (F := F)) (a := adm) (pdats := pdats m) (p := 1) (D := fun _ => 0)
    (S := Pipeline.ucRefs τ sig) (X := fun _ => BI.emp) (Y := fun _ => BI.emp) (R := fun _ => BI.emp) (W := V5 m (outs m)) ?_ c
  exact Pipeline.arrRefs_sub_ucRefs _ launch1.win.arr_unscoped

set_option backward.isDefEq.respectTransparency.types false in
theorem post_edge (hok : ∀ c, Edge.AllWordsOk (V5 m (outs m) c)) (c : Dev nD) :
    (regEdge m hok).post c ⊢ iprop(StableHlo.held (c : Thread nD τ) (Pipeline.ucRefs τ sig) (V6 m (outs m) c) ∗ rest (F := F) c) := by
  rw [← held_alike c _ _ (V6_eq m c)]
  unfold regEdge rest
  exact RegionSeg.ofHeldIn_post (p := 1) (Pipeline.arrRefs_sub_ucRefs _ launch1.win.arr_unscoped) c

/-! ## The run -/

/-- What one core's launch gives holds what rides beside the buffers. -/
theorem rest_of_core (ρ : Dev nD → PrngReg) (c : Dev nD) :
    iprop(unscopedSems0 c ∗ owes (c : Thread nD τ) (0 : CellTallies nD τ sig Unit) ∅
        ∗ Pipeline.launchCred (0 : Dev nD → CellTallies nD τ sig Unit) c ∗ prngReg c (ρ c) ∗ BI.emp) ⊢ (rest (F := F) c : sProp 𝕄) := by
  unfold rest
  iintro ⟨-, HO, -, -, -⟩
  isplitl [HO]; · iexists ∅; iexact HO
  isplitr <;> iempintro

/-- The launch makes what rides beside the buffers on every core. -/
theorem rest_of_launch (ρ : Dev nD → PrngReg) :
    iprop((bigSep Finset.univ fun c : Dev nD => iprop(unscopedSems0 c ∗ owes (c : Thread nD τ) (0 : CellTallies nD τ sig Unit) ∅
        ∗ Pipeline.launchCred (0 : Dev nD → CellTallies nD τ sig Unit) c ∗ prngReg c (ρ c) ∗ BI.emp)) ∗ levAts L lv)
      ⊢ (|={Set.univ}=> bigSep Finset.univ (rest (F := F)) : sProp 𝕄) := by
  have h : (bigSep Finset.univ fun c : Dev nD => iprop(unscopedSems0 c ∗ owes (c : Thread nD τ) (0 : CellTallies nD τ sig Unit) ∅
        ∗ Pipeline.launchCred (0 : Dev nD → CellTallies nD τ sig Unit) c ∗ prngReg c (ρ c) ∗ BI.emp)) ⊢ (bigSep Finset.univ (rest (F := F)) : sProp 𝕄) :=
    bigSep_mono fun c _ => rest_of_core (F := F) ρ c
  iintro ⟨H, -⟩
  imodintro
  iapply h
  iexact H

/-- An argument's or a result's buffer is among those the chain holds. -/
theorem mem_ucRefs (r : Ref sig .tc) (h : r.isScoped = false) : (Proc.devRef .tc r : DevRef τ sig) ∈ Pipeline.ucRefs τ sig :=
  Pipeline.devRef_mem_ucRefs h

set_option backward.isDefEq.respectTransparency.types false in
/-- Every execution ends with every buffer the chain holds at the chain's last valuation, and every semaphore at zero. -/
theorem run_all (ρ : Dev nD → PrngReg) (hok : ∀ c, Edge.AllWordsOk (V5 m (outs m) c)) :
    θ_run defs (onTc (τ := τ) (main (F := F))) ⟨m, fun _ => 0, ρ⟩ (fun r =>
      (∀ c : Dev nD, ∀ b ∈ Pipeline.ucRefs τ sig, r.2.mem ((c.tc : Thread nD τ).1, b) = V7 m (outs m) c b) ∧ r.2.sem = fun _ => 0) := by
  refine Pipeline.θ_run_regions_kit_dev_sems (pcfgs (F := F)) adm (pdats m) () cellOf_inj emb₁ defs₀ Variants.none L lv m ρ main
    (segs m (outs m) Variants.none L lv (fun _ => rest) () (pdats m) (regDense m) (regEdge m hok))
    (fun c Q => by
      rewrite [main_chain c, Seg.run_eq_chain,
        show (segs m (outs m) Variants.none L lv (fun _ => rest) () (pdats m) (regDense m) (regEdge m hok) c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (fun c => by simp only [segs, Seg.pipes_host, Seg.pipes_region, Seg.pipes_nil]; decide) 0
    (fun g hg => by unfold L; rw [if_neg hg]) (fun _ => BI.emp)
    (initOf (Pipeline.cells cfgs cellOf_inj) (Pipeline.launchToks cfgs cellOf_inj)) ?_
    (T₀ := fun c => iprop(StableHlo.held (c : Thread nD τ) (Pipeline.ucRefs τ sig) (V0 m c) ∗ rest c))
    (Tₙ := fun c => StableHlo.held (c : Thread nD τ) (Pipeline.ucRefs τ sig) (V7 m (outs m) c))
    (hch := fun c => ⟨.rfl, pre_dense m c, post_dense m c, .rfl, .rfl, pre_edge m hok c, post_edge m hok c, sep_mono .rfl ?_⟩)
    (hinit := ?_) (QY := fun c s => ∀ b ∈ Pipeline.ucRefs τ sig, s.mem ((c.tc : Thread nD τ).1, b) = V7 m (outs m) c b)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · unfold rest; iintro ⟨HO, -, -⟩; iexact HO
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (0 : Dev nD → CellTallies nD τ sig Unit) c ∗ prngReg c (ρ c) ∗ BI.emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅
              ∗ Pipeline.launchCred (0 : Dev nD → CellTallies nD τ sig Unit) c ∗ prngReg c (ρ c) ∗ BI.emp)) : sProp 𝕄) := by
      rw [← bigSep_sep']
      exact bigSep_mono fun c _ => by
        rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (rest_of_launch (F := F) ρ) $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V7 m (outs m) c) s') $$ [Hh HSI]
    · isplitl [Hh] <;> iassumption
    imodintro
    iexact Hr

/-- Every execution ends with the result's array at the chain's last valuation, each argument as it began, and every semaphore at
    zero. -/
theorem run (ρ : Dev nD → PrngReg) (hok : ∀ c, Edge.AllWordsOk (V5 m (outs m) c)) :
    θ_run defs (onTc (τ := τ) (main (F := F))) ⟨m, fun _ => 0, ρ⟩ (fun r => (∀ c : Dev nD,
      r.2.mem ((c.tc : Thread nD τ).loc main_v39) = V7 m (outs m) c main_v39
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine θ_run_mono (run_all m ρ hok) ?_
  rintro r ⟨h, hz⟩
  refine ⟨fun c => ?_, hz⟩
  have g (b : Ref sig .tc) (hb : b.isScoped = false) : r.2.mem ((c.tc : Thread nD τ).loc b) = V7 m (outs m) c b := h c _ (mem_ucRefs b hb)
  exact ⟨g _ rfl, (g _ rfl).trans (V7_main_arg0 m _ c), (g _ rfl).trans (V7_main_arg1 m _ c), (g _ rfl).trans (V7_main_arg2 m _ c),
    (g _ rfl).trans (V7_main_arg3 m _ c), (g _ rfl).trans (V7_main_arg4 m _ c), (g _ rfl).trans (V7_main_arg5 m _ c),
    (g _ rfl).trans (V7_main_arg6 m _ c)⟩

end Cert.Proof.Run

end
-- ==== Proof.Frames.lean ====
module

public import proofs.«01_k».proof.Proof.Transfer
public import proofs.«01_k».proof.Proof.Words
public import proofs.«01_k».proof.Proof.Run
public import proofs.«01_k».proof.Proof.Gen.ReferenceIdeal
public import proofs.«01_k».proof.Proof.Gen.ReferenceIdeal.Run
public import Idealize.ShloMosaic.Lib.Quiescent

/-!
The frames: with every sender and receiver naming a node, the kernel runs to the end, keeps its arguments and leaves every semaphore
at zero, at the words and at the extended reals; so does the reference, which is a list of host operations and has no semaphore.
-/

@[expose] public section

noncomputable section

namespace Cert.Proof

open Idealize.ShloMosaic Idealize.SL.Sem Edge

section Kernel

open Cert.KernelIdeal Cert.KernelIdeal.Gen

attribute [local instance] facts_edges facts_finite

variable {F : FTy → Type} [FloatOps F]

/-- The edge precondition's scalar is the range test on the two index arrays, at every edge. -/
theorem nodes_of_edges {x0 x1 S R x4 x5 x6} (h : Cert.Pre_edges_name_nodes.fn (F := F) x0 x1 S R x4 x5 x6 = fun _ => 1#1) :
    (∀ e, (S e).toNat < 10000) ∧ ∀ e, (R e).toNat < 10000 :=
  nodes_of_pre S R fun e => congrFun h e

/-- The edge part of the precondition that also asks for finite features and weights. -/
theorem nodes_of_finite {x0 x1 S R x4 x5 x6} (h : (Cert.Pre_finite_on_nodes.fn (F := F) x0 x1 S R x4 x5 x6).1 = fun _ => 1#1) :
    (∀ e, (S e).toNat < 10000) ∧ ∀ e, (R e).toNat < 10000 :=
  nodes_of_pre S R fun e => congrFun h e

/-- With the ends in range, every offset the edge loop computes is in bounds at every grid point. -/
theorem words_ok (m : (ℓ : Loc nD τ sig) → Buf (Elt F) ℓ)
    (h : ∀ c : Dev nD, (∀ e, (m ((c.tc : Thread nD τ).loc main_arg2) e : BitVec 32).toNat < 10000)
      ∧ ∀ e, (m ((c.tc : Thread nD τ).loc main_arg3) e : BitVec 32).toNat < 10000) (c : Dev nD) :
    AllWordsOk (V5 m (Run.outs m) c) :=
  allWordsOk m (Run.outs m) c (h c).1 (h c).2

end Kernel

theorem frame_kernel : quiescent_Kernel (hKernel := Cert.Kernel.Gen.facts) (hPre_edges_name_nodes := facts_edges) := by
  intro m g hm
  letI := Cert.Kernel.Gen.facts
  rw [same_main, same_defs]
  exact θ_run_mono (Run.run (F := Bits) m g (words_ok m fun c => nodes_of_edges (hm c))) fun r h => ⟨fun c => (h.1 c).2, h.2⟩

theorem frame_ideal : quiescent_KernelIdeal (hKernelIdeal := Cert.KernelIdeal.Gen.facts) (hPre_edges_name_nodes := facts_edges) :=
  fun m g hm => θ_run_mono (Run.run m g (words_ok m fun c => nodes_of_edges (hm c))) fun r h => ⟨fun c => (h.1 c).2, h.2⟩

theorem frame_ideal_finite :
    quiescent_KernelIdeal_pre_finite_on_nodes (hKernelIdeal := Cert.KernelIdeal.Gen.facts) (hPre_finite_on_nodes := facts_finite) :=
  fun m g hm => θ_run_mono (Run.run m g (words_ok m fun c => nodes_of_finite (hm c).1)) fun r h => ⟨fun c => (h.1 c).2, h.2⟩

theorem frame_reference : quiescent_ReferenceIdeal (hReferenceIdeal := Cert.ReferenceIdeal.Gen.facts) :=
  fun m g _ => θ_run_mono (Cert.ReferenceIdeal.Value.run m g) fun r h =>
    ⟨fun c => (h c).2, sem_eq_zero_of_no_sems (by decide) r.2⟩

theorem frame_reference_finite :
    quiescent_ReferenceIdeal_pre_finite_on_nodes (hReferenceIdeal := Cert.ReferenceIdeal.Gen.facts) (hPre_finite_on_nodes := facts_finite) :=
  fun m g _ => frame_reference m g trivial

end Cert.Proof

end
-- ==== Proof.Constants.lean ====
/-
  The constants both programs use, as real numbers.
-/
module

public import Idealize.ShloMosaic.Lib.IdealHost
public import Idealize.ShloMosaic.Lib.Pointwise

@[expose] public section

noncomputable section

namespace Cert.Proof.Constants

open Idealize.ShloMosaic

/-- The word of the constant harmonic. -/
abbrev w00 : BitVec 32 := 0x3E906EBB#32
/-- The word of the linear harmonics' factor. -/
abbrev w1 : BitVec 32 := 0x3EFA2A1C#32
/-- The word of the small number that keeps a length off zero. -/
abbrev wEps : BitVec 32 := 0x2B8CBCCC#32

/-- The constant harmonic. -/
def c00 : ℝ := (Ideal.ofBits .f32 w00).toReal
/-- The linear harmonics' factor. -/
def c1 : ℝ := (Ideal.ofBits .f32 w1).toReal
/-- The small number that keeps a length off zero. -/
def eps : ℝ := (Ideal.ofBits .f32 wEps).toReal
/-- The square root of 256, which the scalar path is divided by. -/
def q256 : ℝ := Real.sqrt 256
/-- The square root of 128, which the other paths are divided by. -/
def q128 : ℝ := Real.sqrt 128

theorem q256_pos : 0 < q256 := Real.sqrt_pos.mpr (by norm_num)
theorem q128_pos : 0 < q128 := Real.sqrt_pos.mpr (by norm_num)

/-- A positive normal word's value, from its exponent and fraction fields. -/
theorem ofBits_normal (b : BitVec 32) (ex fr : ℕ) (hs : (b.extractLsb' 31 1 == 1#1) = false) (he : (b.extractLsb' 23 8).toNat = ex)
    (hf : (b.extractLsb' 0 23).toNat = fr) (h1 : ex ≠ 255) (h0 : ex ≠ 0) :
    Ideal.ofBits .f32 b = (((2 ^ 23 + fr : ℕ) * (2 : ℝ) ^ ((ex : ℤ) - 127 - 23) : ℝ) : EReal) := by
  show Ideal.ieee 8 23 b = _
  unfold Ideal.ieee
  simp only [show 8 + 23 = 31 from rfl, hs, he, hf]
  rw [if_neg (by omega), if_neg h0]
  norm_num

theorem ofBits_c00 : Ideal.ofBits .f32 w00 = (c00 : EReal) := by
  unfold c00
  rw [ofBits_normal w00 125 1076923 (by decide) (by decide) (by decide) (by decide) (by decide), EReal.toReal_coe]
theorem ofBits_c1 : Ideal.ofBits .f32 w1 = (c1 : EReal) := by
  unfold c1
  rw [ofBits_normal w1 125 8006172 (by decide) (by decide) (by decide) (by decide) (by decide), EReal.toReal_coe]
theorem ofBits_wEps : Ideal.ofBits .f32 wEps = (((2 ^ 23 + 834764 : ℕ) * (2 : ℝ) ^ ((87 : ℕ) - 127 - 23 : ℤ) : ℝ) : EReal) :=
  ofBits_normal wEps 87 834764 (by decide) (by decide) (by decide) (by decide) (by decide)
theorem ofBits_eps : Ideal.ofBits .f32 wEps = (eps : EReal) := by
  unfold eps
  rw [ofBits_wEps, EReal.toReal_coe]
theorem eps_pos : 0 < eps := by
  unfold eps
  rw [ofBits_wEps, EReal.toReal_coe]
  positivity

theorem ofBits_16 : Ideal.ofBits .f32 0x41800000#32 = ((16 : ℝ) : EReal) := by
  rw [ofBits_normal _ 131 0 (by decide) (by decide) (by decide) (by decide) (by decide)]
  norm_num
theorem ofBits_256 : Ideal.ofBits .f32 0x43800000#32 = ((256 : ℝ) : EReal) := by
  rw [ofBits_normal _ 135 0 (by decide) (by decide) (by decide) (by decide) (by decide)]
  norm_num
theorem ofBits_128 : Ideal.ofBits .f32 0x43000000#32 = ((128 : ℝ) : EReal) := by
  rw [ofBits_normal _ 134 0 (by decide) (by decide) (by decide) (by decide) (by decide)]
  norm_num

theorem sqrt_256 : Ideal.sqrt (Ideal.ofBits .f32 0x43800000#32) = (q256 : EReal) := by
  rw [ofBits_256, Ideal.sqrt_coe, if_neg (by norm_num)]; rfl
theorem sqrt_128 : Ideal.sqrt (Ideal.ofBits .f32 0x43000000#32) = (q128 : EReal) := by
  rw [ofBits_128, Ideal.sqrt_coe, if_neg (by norm_num)]; rfl

/-- The scale of the scalar path's weights. -/
theorem scale0 : Ideal.div 1 (Ideal.ofBits .f32 0x41800000#32 * Ideal.sqrt (Ideal.ofBits .f32 0x43800000#32)) = ((1 / (16 * q256) : ℝ) : EReal) := by
  rw [ofBits_16, sqrt_256, ← EReal.coe_mul, Ideal.div_coe (by have := q256_pos; positivity), one_mul]
/-- The scale of the vector path's weights. -/
theorem scale1 : Ideal.div 1 (Ideal.ofBits .f32 0x41800000#32 * Ideal.sqrt (Ideal.ofBits .f32 0x43000000#32)) = ((1 / (16 * q128) : ℝ) : EReal) := by
  rw [ofBits_16, sqrt_128, ← EReal.coe_mul, Ideal.div_coe (by have := q128_pos; positivity), one_mul]
/-- The scale of the shortcut's weights. -/
theorem scaleShort : Ideal.div 1 (Ideal.sqrt (Ideal.ofBits .f32 0x43000000#32)) = ((1 / q128 : ℝ) : EReal) := by
  rw [sqrt_128, Ideal.div_coe q128_pos.ne', one_mul]

end Cert.Proof.Constants

end
-- ==== Proof.Terms.lean ====
/-
  The entries of the result, as sums over the arguments: as the kernel forms them and as the reference does.

  `X` are the features, `Q` the positions, `S` and `R` the edges' senders and receivers, `W0`, `W1` and `Wsc` the weights.
-/
module

public import proofs.«01_k».proof.Proof.Constants

@[expose] public section

noncomputable section

namespace Cert.Proof.Terms

open Idealize.ShloMosaic
open Cert.Proof.Constants

abbrev Feats := (⟨2, ![10000, 128]⟩ : Shape).Idx → EReal
abbrev Points := (⟨2, ![10000, 3]⟩ : Shape).Idx → EReal
abbrev Ends := (⟨1, ![160000]⟩ : Shape).Idx → BitVec 32
abbrev Weights (p q : ℕ) := (⟨2, ![p, q]⟩ : Shape).Idx → EReal

/-- The node a word names. -/
def node (w : BitVec 32) : Fin 10000 := ⟨w.toNat % 10000, Nat.mod_lt _ (by decide)⟩

theorem node_val {w : BitVec 32} (h : w.toNat < 10000) : (node w).val = w.toNat := Nat.mod_eq_of_lt h

/-- The coordinate of the `k`-th of the three vector entries: y, z, x. -/
def axis (k : Fin 3) : Fin 3 := ![1, 2, 0] k

variable (X : Feats) (Q : Points) (S R : Ends) (W0 : Weights 256 128) (W1 : Weights 128 64) (Wsc : Weights 128 128)

/-- Coordinate `x` of the step from node `s` to node `r`. -/
def rel (s r : Fin 10000) (x : Fin 3) : EReal := Q (ix2 r x) - Q (ix2 s x)

/-- The step's length, kept off zero. -/
def gap (s r : Fin 10000) : EReal := Ideal.sqrt (∑ x : Fin 3, rel Q s r x * rel Q s r x) + (eps : EReal)

/-- The sum over the edges that end at node `n` of `f` at the edge's ends. -/
def gathered (n : Fin 10000) (f : Fin 10000 → Fin 10000 → EReal) : EReal :=
  ∑ e : Fin 160000, if node (R (ix1 e)) = n then f (node (S (ix1 e))) (node (R (ix1 e))) else 0

/-- A scalar entry, the weights folded and scaled before the edges' sum. -/
def scalarFolded (n : Fin 10000) (o : Fin 128) : EReal :=
  (∑ k : Fin 128, X (ix2 n k) * (Wsc (ix2 k o) * ((1 / q128 : ℝ) : EReal)))
    + gathered S R n fun s _ => ∑ k : Fin 128, X (ix2 s k)
        * ((W0 (ix2 ⟨k.val, by omega⟩ o) + (c00 : EReal) * W0 (ix2 ⟨128 + k.val, by omega⟩ o)) * ((1 / (16 * q256) : ℝ) : EReal))

/-- A vector entry, the weights scaled and applied before the edges' sum. -/
def vectorFolded (n : Fin 10000) (o : Fin 64) (k : Fin 3) : EReal :=
  gathered S R n fun s r => (∑ j : Fin 128, X (ix2 s j) * (W1 (ix2 j o) * ((1 / (16 * q128) : ℝ) : EReal)))
    * (rel Q s r (axis k) * Ideal.div (c1 : EReal) (gap Q s r))

/-- Entry `j` of a sender's 256 scalar features: its own 128, then the same times the constant harmonic. -/
def scalarFeat (s : Fin 10000) (j : Fin 256) : EReal :=
  if h : j.val < 128 then X (ix2 s ⟨j.val, h⟩) else X (ix2 s ⟨j.val - 128, by omega⟩) * (c00 : EReal)

/-- A scalar entry, the edges' sum formed first. -/
def scalarPlain (n : Fin 10000) (o : Fin 128) : EReal :=
  Ideal.div (∑ k : Fin 128, X (ix2 n k) * Wsc (ix2 k o)) (q128 : EReal)
    + Ideal.div (∑ j : Fin 256, Ideal.div (gathered S R n fun s _ => scalarFeat X s j) ((16 : ℝ) : EReal) * W0 (ix2 j o)) (q256 : EReal)

/-- A vector entry, the edges' sum formed first. -/
def vectorPlain (n : Fin 10000) (o : Fin 64) (k : Fin 3) : EReal :=
  Ideal.div (∑ j : Fin 128, W1 (ix2 j o)
    * Ideal.div (gathered S R n fun s r => X (ix2 s j) * ((c1 : EReal) * Ideal.div (rel Q s r (axis k)) (gap Q s r))) ((16 : ℝ) : EReal)) (q128 : EReal)

end Cert.Proof.Terms

end
-- ==== Proof.EdgeValue.lean ====
/-
  What the edge kernel's points leave, at an element: each trip adds its edge's message to its receiver's row, so a node's row
  holds the sum of the messages of the edges met so far that end at the node.
-/
module

public import proofs.«01_k».proof.Proof.Words
public import proofs.«01_k».proof.Proof.Terms
public import Idealize.ShloMosaic.Lib.Pointwise

@[expose] public section

noncomputable section

namespace Cert.Proof.Edge

open Cert.KernelIdeal Cert.KernelIdeal.Gen
open Idealize.ShloMosaic Idealize.ShloMosaic.TcCoe
open Cert.Proof.Terms (node node_val axis)

/-! ## One edge's message -/

/-- Entry `col` of the message row of an edge whose ends lie at `a` and `b`, the sender's projected features being `g`. -/
def message (a b : S1x4.Idx → Ideal .f32) (g : S1x192.Idx → Ideal .f32) (col : Fin 320) : Ideal .f32 := k1_pay3 a b g (fun _ => 0) (ix2 0 col)

/-- The row a trip stores is the row it found plus the message. -/
theorem pay3_apply (a b : S1x4.Idx → Ideal .f32) (g : S1x192.Idx → Ideal .f32) (A : S1x1x320.Idx → Ideal .f32) (col : Fin 320) :
    k1_pay3 a b g A (ix2 0 col) = A (ix3 0 0 col) + message a b g col := by
  unfold message k1_pay3
  pointwise

theorem pay2_apply (v : S1x320.Idx → Ideal .f32) (col : Fin 320) : k1_pay2 v (ix3 0 0 col) = v (ix2 0 col) := by
  unfold k1_pay2
  pointwise

/-- The length of the step from `a` to `b`, kept off zero. -/
def reach (a b : S1x4.Idx → Ideal .f32) : EReal :=
  Scalar.sqrt (F := Ideal) (φ := .f32) (∑ x : Fin 4, (b (ix2 0 x) - a (ix2 0 x)) * (b (ix2 0 x) - a (ix2 0 x))) + Ideal.ofBits .f32 0x2B8CBCCC#32

/-- Coordinate `x` of the step from `a` to `b`, scaled. -/
def step (a b : S1x4.Idx → Ideal .f32) (x : Fin 4) : EReal :=
  (b (ix2 0 x) - a (ix2 0 x)) * Ideal.div (Ideal.ofBits .f32 0x3EFA2A1C#32) (reach a b)

/-- A message, entry by entry: the sender's first 128 projected features, then the other 64 times each coordinate of the scaled
    step, in the order y, z, x. -/
theorem message_apply (a b : S1x4.Idx → Ideal .f32) (g : S1x192.Idx → Ideal .f32) (col : Fin 320) :
    message a b g col
      = if h : col.val < 128 then g (ix2 0 ⟨col.val, by omega⟩)
        else if h : col.val - 128 < 64 then g (ix2 0 ⟨128 + (col.val - 128), by omega⟩) * step a b 1
        else if h : col.val - 128 - 64 < 64 then g (ix2 0 ⟨128 + (col.val - 128 - 64), by omega⟩) * step a b 2
        else g (ix2 0 ⟨128 + (col.val - 128 - 64 - 64), by omega⟩) * step a b 0 := by
  unfold message k1_pay3 step reach
  pointwise
  simp only [Fin.sum_univ_one]

/-- The first 128 entries. -/
theorem message_scalar (a b : S1x4.Idx → Ideal .f32) (g : S1x192.Idx → Ideal .f32) (o : Fin 128) :
    message a b g ⟨o.val, by omega⟩ = g (ix2 0 ⟨o.val, by omega⟩) := by
  rw [message_apply, dif_pos o.isLt]

/-- The other entries. -/
theorem message_vector (a b : S1x4.Idx → Ideal .f32) (g : S1x192.Idx → Ideal .f32) (k : Fin 3) (o : Fin 64) (col : Fin 320)
    (hc : col.val = 128 + k.val * 64 + o.val) : message a b g col = g (ix2 0 ⟨128 + o.val, by omega⟩) * step a b (axis k).castSucc := by
  have ho := o.isLt
  have hg (x : EReal) (j : Fin 192) (hj : j.val = 128 + o.val) : g (ix2 0 j) * x = g (ix2 0 ⟨128 + o.val, by omega⟩) * x :=
    congrArg (fun j => g (ix2 0 j) * x) (Fin.ext hj)
  rw [message_apply]
  match k, hc with
  | 0, hc =>
    have hc : col.val = 128 + o.val := by simpa using hc
    rw [dif_neg (by omega), dif_pos (by omega)]
    exact hg _ _ (by show 128 + (col.val - 128) = _; omega)
  | 1, hc =>
    have hc : col.val = 128 + 64 + o.val := by simpa using hc
    rw [dif_neg (by omega), dif_neg (by omega), dif_pos (by omega)]
    exact hg _ _ (by show 128 + (col.val - 128 - 64) = _; omega)
  | 2, hc =>
    have hc : col.val = 128 + 128 + o.val := by simpa using hc
    rw [dif_neg (by omega), dif_neg (by omega), dif_neg (by omega)]
    exact hg _ _ (by show 128 + (col.val - 128 - 64 - 64) = _; omega)

/-! ## One trip at an element -/

/-- Entry `col` of the message from node `s` to node `r`, from all positions and all projected features. -/
def send (P : S10000x4.Idx → Ideal .f32) (G : S10000x192.Idx → Ideal .f32) (s r : Fin 10000) (col : Fin 320) : Ideal .f32 :=
  message (fun y => P (ix2 s (y 1))) (fun y => P (ix2 r (y 1))) (fun y => G (ix2 s (y 1))) col

theorem cast_val {w : BitVec 32} (h : w.toNat < 10000) : (Scalar.indexCast w : Index).toNat = (node w).val := by simp [Scalar.indexCast, node_val h]

/-- A row loaded at a word's offset is the row of the node it names. -/
theorem row_apply {n : ℕ} (X : (⟨2, ![10000, n]⟩ : Shape).Idx → Ideal .f32) (off : Fin 2 → ℕ) (inb) (w : BitVec 32) (h : w.toNat < 10000)
    (ho : off = ![(Scalar.indexCast w : Index).toNat, 0]) :
    VecWindow.window (s := ⟨2, ![10000, n]⟩) X off ![1, n] inb = fun y => X (ix2 (node w) (y 1)) := by
  subst ho
  funext y
  refine congrArg X (funext fun a => Fin.ext ?_)
  match a with
  | ⟨0, _⟩ =>
    have h0 : (y 0).val = 0 := Nat.lt_one_iff.mp (y 0).isLt
    show (Scalar.indexCast w : Index).toNat + 1 * (y 0).val = (node w).val
    rw [h0, cast_val h]; omega
  | ⟨1, _⟩ => show 0 + 1 * (y 1).val = (y 1).val; omega

theorem newRow_apply (P : S10000x4.Idx → Ideal .f32) (G : S10000x192.Idx → Ideal .f32) (s r : BitVec 32) (hs : k1_chk1 s) (hr : k1_chk2 r)
    (ls : s.toNat < 10000) (lr : r.toNat < 10000) (A : S1x10000x320.Idx → Ideal .f32) (col : Fin 320) :
    newRow P G s r hs hr A (ix3 0 0 col) = A (ix3 0 (node r) col) + send P G (node s) (node r) col := by
  unfold newRow
  rw [pay2_apply, pay3_apply]
  refine congrArg₂ _ (congrArg A (funext fun a => Fin.ext ?_)) ?_
  · match a with
    | ⟨0, _⟩ => rfl
    | ⟨1, _⟩ => show (Scalar.indexCast r : Index).toNat + 1 * 0 = (node r).val; rw [cast_val lr]; omega
    | ⟨2, _⟩ => show 0 + 1 * col.val = col.val; omega
  · exact congrFun (congr (congrArg₂ message (row_apply P (k1_off2 s) (k1_off2_inb s hs) s ls rfl) (row_apply P (k1_off3 r) (k1_off3_inb r hr) r lr rfl))
      (row_apply G (k1_off4 s) (k1_off4_inb s hs) s ls rfl)) col

/-- A trip adds the edge's message to its receiver's row and leaves the other rows. -/
theorem tripOut_apply (P : S10000x4.Idx → Ideal .f32) (G : S10000x192.Idx → Ideal .f32) (s r : BitVec 32)
    (ls : s.toNat < 10000) (lr : r.toNat < 10000) (A : S1x10000x320.Idx → Ideal .f32) (n : Fin 10000) (col : Fin 320) :
    tripOut P G s r A (ix3 0 n col) = A (ix3 0 n col) + if node r = n then send P G (node s) (node r) col else 0 := by
  unfold tripOut
  rw [dif_pos ⟨chk1_of_node ls, chk2_of_node lr⟩]
  by_cases h : node r = n
  · subst h
    rw [if_pos rfl, ← newRow_apply P G s r (chk1_of_node ls) (chk2_of_node lr) ls lr]
    unfold VecWindow.put
    rw [dif_pos]
    · refine congrArg _ (funext fun a => Fin.ext ?_)
      match a with
      | ⟨0, _⟩ => rfl
      | ⟨1, _⟩ => show (node r).val - (Scalar.indexCast r : Index).toNat = 0; rw [cast_val lr]; omega
      | ⟨2, _⟩ => show col.val - 0 = col.val; omega
    · intro a
      match a with
      | ⟨0, _⟩ => show 0 ≤ 0 ∧ 0 < 0 + 1; omega
      | ⟨1, _⟩ => show (Scalar.indexCast r : Index).toNat ≤ (node r).val ∧ (node r).val < (Scalar.indexCast r : Index).toNat + 1
                  rw [cast_val lr]; omega
      | ⟨2, _⟩ => have := col.isLt; show 0 ≤ col.val ∧ col.val < 0 + 320; omega
  · rw [if_neg h, add_zero]
    unfold VecWindow.put
    rw [dif_neg]
    intro hall
    have h1 : (Scalar.indexCast r : Index).toNat ≤ n.val ∧ n.val < (Scalar.indexCast r : Index).toNat + 1 := hall 1
    rw [cast_val lr] at h1
    exact h (Fin.ext (by omega))

/-! ## The trips and the points -/

section Points

variable (P : S10000x4.Idx → Ideal .f32) (G : S10000x192.Idx → Ideal .f32) (S R : S160000.Idx → BitVec 32) (n : Fin 10000) (col : Fin 320)

/-- What edge `e` adds to entry `col` of node `n`'s row. -/
def part (e : Fin 160000) : EReal := if node (R (ix1 e)) = n then send P G (node (S (ix1 e))) (node (R (ix1 e))) col else 0

/-- `part` of the edge numbered `e`, nothing past the last edge. -/
def partAt (e : ℕ) : EReal := if h : e < 160000 then part P G S R n col ⟨e, h⟩ else 0

/-- The first `k` trips over the words of edges `b`, `b + 1`, …: the messages of `k` edges added up. -/
theorem tripsOut_apply (X Y : S1x1x2000.Idx → BitVec 32) (b : ℕ) (hb : b + 2000 ≤ 160000)
    (hX : ∀ k : Fin k1_t1_loop.trips, word X k = S (ix1 ⟨b + k.val, by have := k.isLt; have : k1_t1_loop.trips = 2000 := rfl; omega⟩))
    (hY : ∀ k : Fin k1_t1_loop.trips, word Y k = R (ix1 ⟨b + k.val, by have := k.isLt; have : k1_t1_loop.trips = 2000 := rfl; omega⟩))
    (hS : ∀ e, (S e).toNat < 10000) (hR : ∀ e, (R e).toNat < 10000) (A : S1x10000x320.Idx → Ideal .f32) (k : ℕ) (hk : k ≤ k1_t1_loop.trips) :
    tripsOut X Y P G A k (ix3 0 n col) = A (ix3 0 n col) + ∑ e ∈ Finset.Ico b (b + k), partAt P G S R n col e := by
  induction k with
  | zero => rw [Nat.add_zero, Finset.Ico_self, Finset.sum_empty, add_zero]; rfl
  | succ k ih =>
    have ht : k1_t1_loop.trips = 2000 := rfl
    have e := tripsOut_succ X Y P G A ⟨k, hk⟩
    dsimp only at e
    rw [e, hX, hY, tripOut_apply P G _ _ (hS _) (hR _), ih (Nat.le_of_succ_le hk), ← Nat.add_assoc,
      Finset.sum_Ico_succ_top (Nat.le_add_right b k), ← add_assoc]
    congr 1
    unfold partAt
    rw [dif_pos (by omega)]
    rfl

end Points

end Cert.Proof.Edge

end
-- ==== Proof.EdgeArray.lean ====
/-
  The edge kernel's array: plane `p` holds, at each node, the messages of the edges of half `p` that end there, added up.
-/
module

public import proofs.«01_k».proof.Proof.EdgeValue

@[expose] public section

noncomputable section

namespace Cert.Proof.Edge

open Cert.KernelIdeal Cert.KernelIdeal.Gen
open Idealize.ShloMosaic Idealize.ShloMosaic.TcCoe

variable (m : (ℓ : Loc nD τ sig) → Buf (Elt Ideal) ℓ) (outs : Outs (F := Ideal)) (c : Dev nD)

theorem index1_2 : ∀ t : Fin grid1.N, win1_2.index t = ![0, 0] := by decide +kernel
theorem index1_3 : ∀ t : Fin grid1.N, win1_3.index t = ![0, 0] := by decide +kernel
theorem index1_4 : ∀ t : Fin grid1.N, win1_4.index t = ![t.val / 40, 0, 0] := by decide +kernel

/-- Every point reads all the positions. -/
theorem positions_apply (t : Fin cfg1.N) : positions (V5 m outs c) t = (V5 m outs c main_v24 : S10000x4.Idx → EReal) := by
  funext y
  unfold positions
  refine congrArg (V5 m outs c main_v24 : S10000x4.Idx → EReal) (funext fun a => Fin.ext ?_)
  match a with
  | ⟨0, _⟩ => blk_simp [index1_2]
  | ⟨1, _⟩ => blk_simp [index1_2]

/-- Every point reads all the projected features. -/
theorem features_apply (t : Fin cfg1.N) : features (V5 m outs c) t = (V5 m outs c main_v23_0 : S10000x192.Idx → EReal) := by
  funext y
  unfold features
  refine congrArg (V5 m outs c main_v23_0 : S10000x192.Idx → EReal) (funext fun a => Fin.ext ?_)
  match a with
  | ⟨0, _⟩ => blk_simp [index1_3]
  | ⟨1, _⟩ => blk_simp [index1_3]

/-- What edge `e` adds to entry `col` of node `n`'s row, from the arrays the call finds. -/
abbrev adds (n : Fin 10000) (col : Fin 320) (e : Fin 160000) : EReal :=
  part (V5 m outs c main_v24) (V5 m outs c main_v23_0) (m ((c : Thread nD τ).loc main_arg2)) (m ((c : Thread nD τ).loc main_arg3)) n col e
/-- The same of the edge numbered `e`, nothing past the last edge. -/
abbrev addsAt (n : Fin 10000) (col : Fin 320) (e : ℕ) : EReal :=
  partAt (V5 m outs c main_v24) (V5 m outs c main_v23_0) (m ((c : Thread nD τ).loc main_arg2)) (m ((c : Thread nD τ).loc main_arg3)) n col e

variable (hS : ∀ e, (m ((c : Thread nD τ).loc main_arg2) e : BitVec 32).toNat < 10000)
  (hR : ∀ e, (m ((c : Thread nD τ).loc main_arg3) e : BitVec 32).toNat < 10000)
include hS hR

omit hS hR in
theorem off1 : ∀ k : Fin k1_t1_loop.trips, k1_off1 k 2 = k.val := by decide +kernel

/-- A point adds the messages of its 2000 edges. -/
theorem pointOut_apply (t : Fin cfg1.N) (A : S1x10000x320.Idx → Ideal .f32) (n : Fin 10000) (col : Fin 320) :
    pointOut (V5 m outs c) t A (ix3 0 n col)
      = A (ix3 0 n col) + ∑ e ∈ Finset.Ico (t.val * 2000) ((t.val + 1) * 2000), addsAt m outs c n col e := by
  have ht : t.val < 80 := t.isLt
  unfold pointOut
  rw [positions_apply, features_apply, show (t.val + 1) * 2000 = t.val * 2000 + 2000 by omega]
  refine tripsOut_apply _ _ (m ((c : Thread nD τ).loc main_arg2)) (m ((c : Thread nD τ).loc main_arg3)) n col _ _ (t.val * 2000) (by omega)
    (fun k => ?_) (fun k => ?_) hS hR A _ le_rfl
  · unfold word; rw [senders_apply]
    refine congrArg (m ((c : Thread nD τ).loc main_arg2) : S160000.Idx → BitVec 32) (funext fun a => Fin.ext ?_)
    match a with
    | ⟨0, _⟩ => show t.val * 2000 + (k1_off1 k 2 + 1 * 0) = t.val * 2000 + k.val; rw [off1]; omega
  · unfold word; rw [receivers_apply]
    refine congrArg (m ((c : Thread nD τ).loc main_arg3) : S160000.Idx → BitVec 32) (funext fun a => Fin.ext ?_)
    match a with
    | ⟨0, _⟩ => show t.val * 2000 + (k1_off1 k 2 + 1 * 0) = t.val * 2000 + k.val; rw [off1]; omega

omit hS hR in
theorem pay1_apply (y : S1x10000x320.Idx) : k1_pay1 (F := Ideal) y = 0 := by
  unfold k1_pay1
  pointwise

/-- After point `t` the accumulator holds the messages of the edges from its half's first to the point's last. -/
theorem accAt_apply (n : Fin 10000) (col : Fin 320) : (t : ℕ) → (h : t < cfg1.N) →
    accAt (V5 m outs c) t h (ix3 0 n col) = ∑ e ∈ Finset.Ico ((t - t % 40) * 2000) ((t + 1) * 2000), addsAt m outs c n col e
  | 0, h => by
    unfold accAt
    rw [pointOut_apply m outs c hS hR, pay1_apply, zero_add]
  | t + 1, h => by
    unfold accAt
    rw [pointOut_apply m outs c hS hR]
    by_cases h0 : (t + 1) % 40 = 0
    · rw [if_pos h0, pay1_apply, zero_add, h0, Nat.sub_zero]
    · rw [if_neg h0, accAt_apply n col t (Nat.lt_of_succ_lt h), show t + 1 - (t + 1) % 40 = t - t % 40 by omega]
      exact Finset.sum_Ico_consecutive _ (Nat.mul_le_mul_right _ (by omega)) (Nat.mul_le_mul_right _ (by show t + 1 ≤ t + 1 + 1; omega))

/-- The call's array. -/
theorem arrAt_apply :
    (dat (V5 m outs c) c).arrAt 4 cfg1.N
      = (fun y : S2x10000x320.Idx => ∑ e ∈ Finset.Ico ((y 0).val * 80000) (((y 0).val + 1) * 80000), addsAt m outs c (y 1) (y 2) e) := by
  refine (dat (V5 m outs c) c).arrAt_eq_of_covers 4 _ (by decide +kernel) fun t hf y => ?_
  have h39 := (flush1_4 t).mp hf
  have y0 : y = ix3 0 (y 1) (y 2) := funext fun a => by
    match a with
    | ⟨0, _⟩ => exact Fin.ext (Nat.lt_one_iff.mp (y 0).isLt)
    | ⟨1, _⟩ => rfl
    | ⟨2, _⟩ => rfl
  have e1 : (win1_4.blk t).view.emb y 1 = y 1 := Fin.ext (by blk_simp [index1_4])
  have e2 : (win1_4.blk t).view.emb y 2 = y 2 := Fin.ext (by blk_simp [index1_4])
  have e0 : win1_4.index t 0 = t.val / 40 := congrFun (index1_4 t) 0
  blk_simp
  rw [e0, e1, e2, show t.val / 40 * 80000 = (t.val - t.val % 40) * 2000 by omega, show (t.val / 40 + 1) * 80000 = (t.val + 1) * 2000 by omega]
  exact (congrArg (accAt (V5 m outs c) t.val t.isLt) y0).trans (accAt_apply m outs c hS hR (y 1) (y 2) t.val t.isLt)

omit hS hR in
/-- The two planes together hold every edge's message. -/
theorem planes_apply (n : Fin 10000) (col : Fin 320) :
    (∑ e ∈ Finset.Ico (0 * 80000) ((0 + 1) * 80000), addsAt m outs c n col e) + ∑ e ∈ Finset.Ico (1 * 80000) ((1 + 1) * 80000), addsAt m outs c n col e
      = ∑ e : Fin 160000, adds m outs c n col e := by
  rw [Finset.sum_Ico_consecutive _ (by omega) (by omega), show (1 + 1) * 80000 = 160000 from rfl, Nat.zero_mul, ← Finset.range_eq_Ico,
    Finset.sum_range]
  refine Finset.sum_congr rfl fun e _ => ?_
  unfold addsAt partAt
  rw [dif_pos e.isLt]

end Cert.Proof.Edge

end
-- ==== Proof.DenseArray.lean ====
/-
  The dense kernel's two arrays: the features times each of the two weight matrices.
-/
module

public import proofs.«01_k».proof.Proof.DenseRegion
public import Idealize.ShloMosaic.Lib.Pointwise
public import Idealize.ShloMosaic.Lib.Pipeline.ValueKit.Geometry

@[expose] public section

noncomputable section

namespace Cert.Proof.Dense

open Cert.KernelIdeal Cert.KernelIdeal.Gen
open Idealize.ShloMosaic Idealize.ShloMosaic.TcCoe

variable (W : Valuation τ sig (Elt Ideal)) (c : Dev nD)

theorem index0_0 : ∀ t : Fin grid0.N, win0_0.index t = ![t.val, 0] := by decide +kernel
theorem index0_1 : ∀ t : Fin grid0.N, win0_1.index t = ![0, 0] := by decide +kernel
theorem index0_2 : ∀ t : Fin grid0.N, win0_2.index t = ![0, 0] := by decide +kernel
theorem index0_3 : ∀ t : Fin grid0.N, win0_3.index t = ![t.val, 0] := by decide +kernel
theorem index0_4 : ∀ t : Fin grid0.N, win0_4.index t = ![t.val, 0] := by decide +kernel

/-- Row `i` of point `t`'s block is row `400 t + i` of the features. -/
theorem rows_apply (t : Fin cfg0.N) (i : Fin 400) (k : Fin 128) (n : Fin 10000) (hn : n.val = t.val * 400 + i.val) :
    rows W t (ix2 i k) = (W main_arg0 : S10000x128.Idx → EReal) (ix2 n k) := by
  unfold rows
  refine congrArg (W main_arg0 : S10000x128.Idx → EReal) (funext fun a => Fin.ext ?_)
  match a with
  | ⟨0, _⟩ => blk_simp [index0_0]; exact hn.symm
  | ⟨1, _⟩ => blk_simp [index0_0]

theorem edgeW_apply (t : Fin cfg0.N) : edgeW W t = (W main_v19 : S128x192.Idx → EReal) := by
  funext y
  unfold edgeW
  refine congrArg (W main_v19 : S128x192.Idx → EReal) (funext fun a => Fin.ext ?_)
  match a with
  | ⟨0, _⟩ => blk_simp [index0_1]
  | ⟨1, _⟩ => blk_simp [index0_1]

theorem nodeW_apply (t : Fin cfg0.N) : nodeW W t = (W main_v22 : S128x128.Idx → EReal) := by
  funext y
  unfold nodeW
  refine congrArg (W main_v22 : S128x128.Idx → EReal) (funext fun a => Fin.ext ?_)
  match a with
  | ⟨0, _⟩ => blk_simp [index0_2]
  | ⟨1, _⟩ => blk_simp [index0_2]

theorem pay1_apply (X : S400x128.Idx → Ideal .f32) (U : S128x192.Idx → Ideal .f32) (i : Fin 400) (j : Fin 192) :
    k0_pay1 X U (ix2 i j) = ∑ k : Fin 128, X (ix2 i k) * U (ix2 k j) := by
  unfold k0_pay1
  pointwise

theorem pay2_apply (X : S400x128.Idx → Ideal .f32) (U : S128x128.Idx → Ideal .f32) (i : Fin 400) (j : Fin 128) :
    k0_pay2 X U (ix2 i j) = ∑ k : Fin 128, X (ix2 i k) * U (ix2 k j) := by
  unfold k0_pay2
  pointwise

/-- Entry `(n, j)` of the product of the features `X` and the weights `U`. -/
def times {q : ℕ} (X : (⟨2, ![10000, 128]⟩ : Shape).Idx → EReal) (U : (⟨2, ![128, q]⟩ : Shape).Idx → EReal) (n : Fin 10000) (j : Fin q) : EReal :=
  ∑ k : Fin 128, X (ix2 n k) * U (ix2 k j)

/-- The projected features. -/
theorem arrAt_3 : (dat W c).arrAt 3 cfg0.N
    = (fun y : S10000x192.Idx => times (W main_arg0) (W main_v19) (y 0) (y 1)) := by
  refine (dat W c).arrAt_eq_of_covers 3 _ (by decide +kernel) fun t hf y => ?_
  have y0 : y = ix2 (y 0) (y 1) := funext fun a => by
    match a with
    | ⟨0, _⟩ => rfl
    | ⟨1, _⟩ => rfl
  have e0 : ((win0_3.blk t).view.emb y 0).val = t.val * 400 + (y 0).val := by blk_simp [index0_3]
  have e1 : (win0_3.blk t).view.emb y 1 = y 1 := Fin.ext (by blk_simp [index0_3])
  refine (congrArg (k0_pay1 (rows W t) (edgeW W t)) y0).trans ((pay1_apply _ _ (y 0) (y 1)).trans ?_)
  refine Eq.trans ?_ (congrArg (times (W main_arg0) (W main_v19) ((win0_3.blk t).view.emb y 0)) e1.symm)
  refine Finset.sum_congr rfl fun k _ => ?_
  rw [edgeW_apply, rows_apply W t (y 0) k ((win0_3.blk t).view.emb y 0) e0]

/-- The shortcut. -/
theorem arrAt_4 : (dat W c).arrAt 4 cfg0.N
    = (fun y : S10000x128.Idx => times (W main_arg0) (W main_v22) (y 0) (y 1)) := by
  refine (dat W c).arrAt_eq_of_covers 4 _ (by decide +kernel) fun t hf y => ?_
  have y0 : y = ix2 (y 0) (y 1) := funext fun a => by
    match a with
    | ⟨0, _⟩ => rfl
    | ⟨1, _⟩ => rfl
  have e0 : ((win0_4.blk t).view.emb y 0).val = t.val * 400 + (y 0).val := by blk_simp [index0_4]
  have e1 : (win0_4.blk t).view.emb y 1 = y 1 := Fin.ext (by blk_simp [index0_4])
  refine (congrArg (k0_pay2 (rows W t) (nodeW W t)) y0).trans ((pay2_apply _ _ (y 0) (y 1)).trans ?_)
  refine Eq.trans ?_ (congrArg (times (W main_arg0) (W main_v22) ((win0_4.blk t).view.emb y 0)) e1.symm)
  refine Finset.sum_congr rfl fun k _ => ?_
  rw [nodeW_apply, rows_apply W t (y 0) k ((win0_4.blk t).view.emb y 0) e0]

end Cert.Proof.Dense

end
-- ==== Proof.HostLines.lean ====
/-
  The kernel's host lines at an element: the weights and padded positions the two calls find, and the result from the calls' arrays.
-/
module

public import proofs.«01_k».proof.Proof.EdgeArray
public import proofs.«01_k».proof.Proof.DenseArray
public import proofs.«01_k».proof.Proof.Run
public import proofs.«01_k».proof.Proof.Constants
public import Idealize.ShloMosaic.Lib.StableHlo.ReadAt

@[expose] public section

noncomputable section

namespace Cert.Proof.Host

open Cert.KernelIdeal Cert.KernelIdeal.Gen
open Idealize.ShloMosaic Idealize.ShloMosaic.TcCoe
open Cert.Proof.Constants

variable (m : (ℓ : Loc nD τ sig) → Buf (Elt Ideal) ℓ) (outs : Outs (F := Ideal)) (c : Dev nD)

/-! ## The arguments -/

abbrev argX : S10000x128.Idx → EReal := m ((c : Thread nD τ).loc main_arg0)
abbrev argQ : S10000x3.Idx → EReal := m ((c : Thread nD τ).loc main_arg1)
abbrev argS : S160000.Idx → BitVec 32 := m ((c : Thread nD τ).loc main_arg2)
abbrev argR : S160000.Idx → BitVec 32 := m ((c : Thread nD τ).loc main_arg3)
abbrev argW0 : S256x128.Idx → EReal := m ((c : Thread nD τ).loc main_arg4)
abbrev argW1 : S128x64.Idx → EReal := m ((c : Thread nD τ).loc main_arg5)
abbrev argWsc : S128x128.Idx → EReal := m ((c : Thread nD τ).loc main_arg6)

/-! ## Before the calls -/

/-- The shortcut's weights, scaled. -/
theorem v22_apply (k : Fin 128) (o : Fin 128) :
    (V1 m c main_v22 : S128x128.Idx → EReal) (ix2 k o) = argWsc m c (ix2 k o) * ((1 / q128 : ℝ) : EReal) := by
  unfold V1
  after_reads_at
  simp only [id]
  pointwise
  rw [← scaleShort]

/-- The edge weights: the scalar path's two halves folded into one and scaled, then the vector path's, scaled. -/
theorem v19_apply (k : Fin 128) (j : Fin 192) :
    (V1 m c main_v19 : S128x192.Idx → EReal) (ix2 k j)
      = if h : j.val < 128 then
          (argW0 m c (ix2 ⟨k.val, by omega⟩ ⟨j.val, h⟩) + (c00 : EReal) * argW0 m c (ix2 ⟨128 + k.val, by omega⟩ ⟨j.val, h⟩)) * ((1 / (16 * q256) : ℝ) : EReal)
        else argW1 m c (ix2 k ⟨j.val - 128, by omega⟩) * ((1 / (16 * q128) : ℝ) : EReal) := by
  unfold V1
  after_reads_at
  simp only [id]
  pointwise
  rw [← scale0, ← scale1, ← ofBits_c00]

/-- The positions with a fourth coordinate of zero. -/
theorem v24_apply (n : Fin 10000) (x : Fin 4) :
    (V5 m outs c main_v24 : S10000x4.Idx → EReal) (ix2 n x) = if h : x.val < 3 then argQ m c (ix2 n ⟨x.val, h⟩) else (0 : EReal) := by
  rw [V5_of m outs c main_v24 (by decide)]
  unfold V4
  after_reads_at
  rw [V2_of m outs c main_arg1 (by decide), V1_of m c main_arg1 (by decide)]
  have h0 : FloatOps.sitofp (F := Ideal) .f32 0#32 = (0 : EReal) := by
    show (((0#32 : BitVec 32).toInt : ℝ) : EReal) = 0
    simp
  rw [h0]

/-! ## After the calls -/

/-- The edge call's array. -/
abbrev edges : S2x10000x320.Idx → EReal := V6 m outs c main_v27
/-- The shortcut. -/
abbrev short : S10000x128.Idx → EReal := V6 m outs c main_v23_1

/-- The first 128 entries of the result. -/
theorem v39_scalar (n : Fin 10000) (o : Fin 128) :
    (V7 m outs c main_v39 : S10000x320.Idx → EReal) (ix2 n ⟨o.val, by omega⟩)
      = (short m outs c (ix2 n o)
        + (edges m outs c (ix3 0 n ⟨o.val, by omega⟩)
          + edges m outs c (ix3 1 n ⟨o.val, by omega⟩))) := by
  unfold V7
  after_reads_at

/-- The others. -/
theorem v39_vector (n : Fin 10000) (o : Fin 64) (k : Fin 3) (x : Fin 320) (hx : x.val = 128 + o.val * 3 + k.val) :
    (V7 m outs c main_v39 : S10000x320.Idx → EReal) (ix2 n x)
      = (edges m outs c (ix3 0 n ⟨128 + k.val * 64 + o.val, by omega⟩)
          + edges m outs c (ix3 1 n ⟨128 + k.val * 64 + o.val, by omega⟩)) := by
  unfold V7
  after_reads_at
  rw [dif_neg (by omega)]
  have e : 128 + ((x.val - 128) % 3 * 64 + (x.val - 128) / 3) = 128 + k.val * 64 + o.val := by omega
  simp only [e]

end Cert.Proof.Host

end
-- ==== Proof.KernelValue.lean ====
/-
  The kernel's result, entry by entry, in the arguments.
-/
module

public import proofs.«01_k».proof.Proof.HostLines

@[expose] public section

noncomputable section

namespace Cert.Proof.Host

open Cert.KernelIdeal Cert.KernelIdeal.Gen
open Idealize.ShloMosaic Idealize.ShloMosaic.TcCoe
open Cert.Proof.Constants Cert.Proof.Terms
open Idealize.ShloMosaic.Pipeline (afterRegion_arr)

variable (m : (ℓ : Loc nD τ sig) → Buf (Elt Ideal) ℓ) (c : Dev nD)

/-- The features as the dense call finds them. -/
theorem V1_arg0 : (V1 m c main_arg0 : S10000x128.Idx → EReal) = argX m c := V1_of m c main_arg0 (by decide)

/-- The projected features as the edge call finds them. -/
theorem hidden_apply (n : Fin 10000) (j : Fin 192) :
    (V5 m (Run.outs m) c main_v23_0 : S10000x192.Idx → EReal) (ix2 n j) = Dense.times (argX m c) (V1 m c main_v19) n j := by
  rw [V5_of m _ c main_v23_0 (by decide), V4_of m _ c main_v23_0 (by decide), V3_of m _ c main_v23_0 (by decide), V2,
    Function.update_of_ne (StableHlo.devRef_ne_of_ne (by decide)), Function.update_self, Run.outs_2, Run.outsDense]
  refine (congrFun ((afterRegion_arr (Dense.dat (V1 m c) c) (V1 m c) launch0.win.arr_inj 3).trans (Dense.arrAt_3 (V1 m c) c)) (ix2 n j)).trans ?_
  rw [← V1_arg0]
  rfl

/-- The shortcut as the last host lines find it. -/
theorem short_apply (n : Fin 10000) (o : Fin 128) : short m (Run.outs m) c (ix2 n o) = Dense.times (argX m c) (V1 m c main_v22) n o := by
  unfold short
  rw [V6_of m _ c main_v23_1 (by decide), V5_of m _ c main_v23_1 (by decide), V4_of m _ c main_v23_1 (by decide), V3_of m _ c main_v23_1 (by decide), V2,
    Function.update_self, Run.outs_2, Run.outsDense]
  refine (congrFun ((afterRegion_arr (Dense.dat (V1 m c) c) (V1 m c) launch0.win.arr_inj 4).trans (Dense.arrAt_4 (V1 m c) c)) (ix2 n o)).trans ?_
  rw [← V1_arg0]
  rfl

variable (hS : ∀ e, (m ((c : Thread nD τ).loc main_arg2) e : BitVec 32).toNat < 10000)
  (hR : ∀ e, (m ((c : Thread nD τ).loc main_arg3) e : BitVec 32).toNat < 10000)
include hS hR

/-- The edge call's two planes, added. -/
theorem edges_apply (n : Fin 10000) (col : Fin 320) :
    edges m (Run.outs m) c (ix3 0 n col) + edges m (Run.outs m) c (ix3 1 n col)
      = gathered (argS m c) (argR m c) n fun s r => Edge.send (V5 m (Run.outs m) c main_v24) (V5 m (Run.outs m) c main_v23_0) s r col := by
  have h : edges m (Run.outs m) c = (fun y : S2x10000x320.Idx =>
      ∑ e ∈ Finset.Ico ((y 0).val * 80000) (((y 0).val + 1) * 80000), Edge.addsAt m (Run.outs m) c (y 1) (y 2) e) := by
    unfold edges
    rw [V6, Function.update_self, Run.outs_6, ← Run.V5_outs]
    exact (afterRegion_arr (Edge.dat (V5 m (Run.outs m) c) c) (V5 m (Run.outs m) c) launch1.win.arr_inj 4).trans (Edge.arrAt_apply m (Run.outs m) c hS hR)
  rw [h]
  exact Edge.planes_apply m (Run.outs m) c n col

omit hS hR in
/-- The step between two nodes, from positions padded by a fourth coordinate of zero. -/
theorem step_apply (P : S10000x4.Idx → EReal) (Q : S10000x3.Idx → EReal) (hp : ∀ n (x : Fin 3), P (ix2 n x.castSucc) = Q (ix2 n x))
    (h3 : ∀ n, P (ix2 n (Fin.last 3)) = 0) (s r : Fin 10000) (x : Fin 3) :
    Edge.step (fun y => P (ix2 s (y 1))) (fun y => P (ix2 r (y 1))) x.castSucc = rel Q s r x * Ideal.div (c1 : EReal) (gap Q s r) := by
  unfold Edge.step Edge.reach rel gap
  rw [Fin.sum_univ_castSucc, ofBits_c1, ofBits_eps]
  show (P (ix2 r x.castSucc) - P (ix2 s x.castSucc)) * Ideal.div (c1 : EReal)
    (Ideal.sqrt (∑ x : Fin 3, (P (ix2 r x.castSucc) - P (ix2 s x.castSucc)) * (P (ix2 r x.castSucc) - P (ix2 s x.castSucc))
      + (P (ix2 r (Fin.last 3)) - P (ix2 s (Fin.last 3))) * (P (ix2 r (Fin.last 3)) - P (ix2 s (Fin.last 3)))) + (eps : EReal)) = _
  simp only [hp, h3, sub_zero, mul_zero, add_zero]
  rfl

omit hS hR in
/-- The projected features of the scalar path. -/
theorem hidden_scalar (n : Fin 10000) (o : Fin 128) :
    Dense.times (argX m c) (V1 m c main_v19) n ⟨o.val, by omega⟩ = ∑ k : Fin 128, argX m c (ix2 n k)
      * ((argW0 m c (ix2 ⟨k.val, by omega⟩ o) + (c00 : EReal) * argW0 m c (ix2 ⟨128 + k.val, by omega⟩ o)) * ((1 / (16 * q256) : ℝ) : EReal)) := by
  unfold Dense.times
  refine Finset.sum_congr rfl fun k _ => congrArg _ ((v19_apply m c k _).trans ?_)
  rw [dif_pos o.isLt]

omit hS hR in
/-- The projected features of the vector path. -/
theorem hidden_vector (n : Fin 10000) (o : Fin 64) :
    Dense.times (argX m c) (V1 m c main_v19) n ⟨128 + o.val, by omega⟩
      = ∑ k : Fin 128, argX m c (ix2 n k) * (argW1 m c (ix2 k o) * ((1 / (16 * q128) : ℝ) : EReal)) := by
  unfold Dense.times
  refine Finset.sum_congr rfl fun k _ => congrArg _ ((v19_apply m c k _).trans ?_)
  rw [dif_neg (by simp)]
  simp only [Nat.add_sub_cancel_left]

/-- The first 128 entries of a node's row. -/
theorem result_scalar (n : Fin 10000) (o : Fin 128) :
    (V7 m (Run.outs m) c main_v39 : S10000x320.Idx → EReal) (ix2 n ⟨o.val, by omega⟩)
      = scalarFolded (argX m c) (argS m c) (argR m c) (argW0 m c) (argWsc m c) n o := by
  rw [v39_scalar, short_apply, edges_apply m c hS hR]
  unfold scalarFolded Dense.times
  refine congrArg₂ _ (Finset.sum_congr rfl fun k _ => by rw [v22_apply]) ?_
  refine congrArg _ (funext fun s => funext fun r => ?_)
  unfold Edge.send
  rw [Edge.message_scalar]
  exact (hidden_apply m c s _).trans (hidden_scalar m c s o)

/-- The other entries. -/
theorem result_vector (n : Fin 10000) (o : Fin 64) (k : Fin 3) (x : Fin 320) (hx : x.val = 128 + o.val * 3 + k.val) :
    (V7 m (Run.outs m) c main_v39 : S10000x320.Idx → EReal) (ix2 n x)
      = vectorFolded (argX m c) (argQ m c) (argS m c) (argR m c) (argW1 m c) n o k := by
  rw [v39_vector m _ c n o k x hx, edges_apply m c hS hR]
  unfold vectorFolded
  refine congrArg _ (funext fun s => funext fun r => ?_)
  unfold Edge.send
  rw [Edge.message_vector _ _ _ k o _ rfl]
  exact congrArg₂ _ ((hidden_apply m c s _).trans (hidden_vector m c s o))
    (step_apply _ (argQ m c) (fun n x => (v24_apply m _ c n _).trans (dif_pos x.isLt)) (fun n => (v24_apply m _ c n _).trans (dif_neg (by simp))) s r (axis k))

end Cert.Proof.Host

end
-- ==== Proof.Reference.lean ====
/-
  The reference's intermediate arrays, named, and its result in terms of them.
-/
module

public import proofs.«01_k».proof.Proof.Gen.ReferenceIdeal.Run

@[expose] public section

noncomputable section

namespace Cert.Proof.Reference

open Cert.ReferenceIdeal Cert.ReferenceIdeal.Gen
open Idealize.ShloMosaic Idealize.ShloMosaic.TcCoe

variable {F : FTy → Type} [FloatOps F]

variable (X : FVec F S10000x128 .f32) (Q : FVec F S10000x3 .f32) (S R : IVec S160000 32) (W0 : FVec F S256x128 .f32) (W1 : FVec F S128x64 .f32)
  (Wsc : FVec F S128x128 .f32)

/-- Row numbers, a negative one counted from the end. -/
def wrap (I : IVec S160000 32) : IVec S160000x1 32 :=
  broadcastInDim S160000x1 ![0] bcast_S160000_S160000x1_0
    (select (cmpi .slt I (broadcastInDim S160000 ![] bcast_S_S160000 (constantI S_ 32 0#32)))
      (addi I (broadcastInDim S160000 ![] bcast_S_S160000 (constantI S_ 32 10000#32))) I)

/-- The steps from senders to receivers. -/
def steps : FVec F S160000x3 .f32 :=
  subf (Host.gather gather_S10000x3_S160000x1_S160000x3_1_0_n_n_0_1_13 Q (wrap R)) (Host.gather gather_S10000x3_S160000x1_S160000x3_1_0_n_n_0_1_13 Q (wrap S))

/-- The senders' features. -/
def feats : FVec F S160000x128 .f32 := Host.gather gather_S10000x128_S160000x1_S160000x128_1_0_n_n_0_1_1128 X (wrap S)

/-- The steps divided by their lengths. -/
def units : FVec F S160000x3 .f32 :=
  Host.divf (steps Q S R) (broadcastInDim S160000x3 ![0, 1] bcast_S160000x1_S160000x3_0_1
    (addf (Host.sqrt (broadcastInDim S160000x1 ![0] bcast_S160000_S160000x1_0
        (Host.reduceAdd (mulf (steps Q S R) (steps Q S R)) (constant S_ .f32 0x00000000#32) reducesTo_S160000x3_S160000_d1 h_S_)))
      (broadcastInDim S160000x1 ![] bcast_S_S160000x1 (constant S_ .f32 0x2B8CBCCC#32))))

/-- A coordinate of the unit steps, scaled: the linear harmonics' factor times it. -/
def linear (col : FVec F S160000x1 .f32) : FVec F S160000x1 .f32 :=
  broadcastInDim S160000x1 ![0] bcast_S160000_S160000x1_0
    (mulf (broadcastInDim S160000 ![] bcast_S_S160000 (constant S_ .f32 0x3EFA2A1C#32)) (shapeCast S160000 col shapeCasts_S160000x1_S160000))

/-- The four harmonics of the unit steps. -/
def harmonics : FVec F S160000x4 .f32 :=
  concatenate S160000x4 1
    [⟨S160000x1, broadcastInDim S160000x1 ![0] bcast_S160000_S160000x1_0 (broadcastInDim S160000 ![] bcast_S_S160000 (constant S_ .f32 0x3E906EBB#32))⟩,
      ⟨S160000x1, linear (extractStridedSlice S160000x1 ![0, 1] (units Q S R) slices_S160000x3_S160000x1_0_1)⟩,
      ⟨S160000x1, linear (extractStridedSlice S160000x1 ![0, 2] (units Q S R) slices_S160000x3_S160000x1_0_2)⟩,
      ⟨S160000x1, linear (extractStridedSlice S160000x1 ![0, 0] (units Q S R) slices_S160000x3_S160000x1_0_0)⟩]
    concatenates_S160000x1_S160000x1_S160000x1_S160000x1_S160000x4_d1

/-- The senders' features times the harmonics. -/
def products : FVec F S160000x128x4 .f32 :=
  mulf (broadcastInDim S160000x128x4 ![0, 1, 2] bcast_S160000x128x1_S160000x128x4_0_1_2
      (broadcastInDim S160000x128x1 ![0, 1] bcast_S160000x128_S160000x128x1_0_1 (feats X S)))
    (broadcastInDim S160000x128x4 ![0, 1, 2] bcast_S160000x1x4_S160000x128x4_0_1_2
      (broadcastInDim S160000x1x4 ![0, 2] bcast_S160000x4_S160000x1x4_0_2 (harmonics Q S R)))

/-- The messages' 256 scalars. -/
def scalars : FVec F S160000x256 .f32 :=
  concatenate S160000x256 1
    [⟨S160000x128, feats X S⟩,
      ⟨S160000x128, shapeCast S160000x128 (extractStridedSlice S160000x128x1 ![0, 0, 0] (products X Q S R) slices_S160000x128x4_S160000x128x1_0_0_0)
        shapeCasts_S160000x128x1_S160000x128⟩]
    concatenates_S160000x128_S160000x128_S160000x256_d1

/-- The messages' vectors, in rows of 384. -/
def vectors : FVec F S160000x384 .f32 :=
  shapeCast S160000x384 (extractStridedSlice S160000x128x3 ![0, 0, 1] (products X Q S R) slices_S160000x128x4_S160000x128x3_0_0_1)
    shapeCasts_S160000x128x3_S160000x384

/-- The scalars summed into their receivers' rows. -/
def scalarSums : FVec F S10000x256 .f32 :=
  Host.scatterAdd scatter_S10000x256_S160000x1_S160000x256_1_0_0_1 (broadcastInDim S10000x256 ![] bcast_S_S10000x256 (constant S_ .f32 0x00000000#32))
    (broadcastInDim S160000x1 ![0] bcast_S160000_S160000x1_0 R) (scalars X Q S R)

/-- The vectors summed into their receivers' rows. -/
def vectorSums : FVec F S10000x384 .f32 :=
  Host.scatterAdd scatter_S10000x384_S160000x1_S160000x384_1_0_0_1 (broadcastInDim S10000x384 ![] bcast_S_S10000x384 (constant S_ .f32 0x00000000#32))
    (broadcastInDim S160000x1 ![0] bcast_S160000_S160000x1_0 R) (vectors X Q S R)

/-- The result's first 128 columns, from the summed scalars. -/
def scalarOut (A : FVec F S10000x256 .f32) : FVec F S10000x128 .f32 :=
  addf (Host.divf (Host.dotGeneral dot_S10000x128_S128x128_S10000x128_1_0_0_1_n_n none X Wsc)
      (broadcastInDim S10000x128 ![] bcast_S_S10000x128 (id (Host.sqrt (constant S_ .f32 0x43000000#32)))))
    (Host.divf (Host.dotGeneral dot_S10000x256_S256x128_S10000x128_1_0_0_1_n_n none
        (Host.divf A (broadcastInDim S10000x256 ![] bcast_S_S10000x256 (constant S_ .f32 0x41800000#32))) W0)
      (broadcastInDim S10000x128 ![] bcast_S_S10000x128 (id (Host.sqrt (constant S_ .f32 0x43800000#32)))))

/-- The result's other columns, from the summed vectors. -/
def vectorOut (B : FVec F S10000x384 .f32) : FVec F S10000x192 .f32 :=
  shapeCast S10000x192
    (Host.divf (transpose S10000x64x3 [1, 0, 2] (Host.dotGeneral dot_S128x64_S10000x128x3_S64x10000x3_0_1_1_02_n_n none W1
        (Host.divf (shapeCast S10000x128x3 B shapeCasts_S10000x384_S10000x128x3)
          (broadcastInDim S10000x128x3 ![] bcast_S_S10000x128x3 (constant S_ .f32 0x41800000#32)))) transposes_S64x10000x3_S10000x64x3_1_0_2)
      (broadcastInDim S10000x64x3 ![] bcast_S_S10000x64x3 (id (Host.sqrt (constant S_ .f32 0x43000000#32)))))
    shapeCasts_S10000x64x3_S10000x192

/-- The result. -/
def result : FVec F S10000x320 .f32 :=
  concatenate S10000x320 1
    [⟨S10000x128, scalarOut X W0 Wsc (scalarSums X Q S R)⟩, ⟨S10000x192, vectorOut W1 (vectorSums X Q S R)⟩]
    concatenates_S10000x128_S10000x192_S10000x320_d1

/-- What the reference's run leaves is `result` of its arguments. -/
theorem res_eq (m : (ℓ : Loc nD τ sig) → Buf (Elt F) ℓ) (c : Dev nD) :
    (Value.res_main_v84 m c : FVec F S10000x320 .f32)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := rfl

end Cert.Proof.Reference

end
-- ==== Proof.RowSums.lean ====
/-
  A host sum by rows, read at an element: adding each row of a table of updates to the row of the operand its index word names.
-/
module

public import Idealize.ShloMosaic.Lib.Pointwise
public import Idealize.ShloMosaic.Lib.Routing.OpsPair

@[expose] public section

noncomputable section

namespace Cert.Proof.RowSums

open Idealize.ShloMosaic

/-- The dimension numbers of a sum of the rows of an `[E, C]` table into the rows of an `[N, C]` array, one index word per row. -/
abbrev dims (N C E : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N C E : ℕ} (wf : ScatterDims.WF ⟨2, ![N, C]⟩ ⟨2, ![E, 1]⟩ ⟨2, ![E, C]⟩ [1] [0] [0] 1)

/-- Entry `(e, c')` of the updates lands at `(n, c)` exactly when row `e`'s word, read signed, is `n`, and `c' = c`. -/
theorem lands (idx : IVec ⟨2, ![E, 1]⟩ 32) (e : Fin E) (c' : Fin C) (n : Fin N) (c : Fin C) :
    (dims N C E wf).resultIdx? (ix2 e c') idx = some (ix2 n c) ↔ (idx (ix2 e 0)).toInt = n.val ∧ c' = c := by
  rw [Routing.resultIdx?_eq_some]
  have hs : (dims N C E wf).siIdx (ix2 e c') ⟨0, Nat.one_pos⟩ = ix2 e 0 := by
    funext b
    match b with
    | ⟨0, _⟩ => rfl
    | ⟨1, _⟩ => rfl
  have h0 : (dims N C E wf).start (ix2 e c') idx 0 = (idx (ix2 e 0)).toInt := congrArg (fun i => (idx i).toInt) hs
  have h1 : (dims N C E wf).start (ix2 e c') idx 1 = 0 := rfl
  have w0 : (dims N C E wf).window (ix2 e c') 0 = 0 := rfl
  have w1 : (dims N C E wf).window (ix2 e c') 1 = c'.val := rfl
  constructor
  · intro h
    have a0 := h 0
    have a1 := h 1
    rw [h0, w0] at a0
    rw [h1, w1] at a1
    have b0 : ((ix2 n c : (⟨2, ![N, C]⟩ : Shape).Idx) 0).val = n.val := rfl
    have b1 : ((ix2 n c : (⟨2, ![N, C]⟩ : Shape).Idx) 1).val = c.val := rfl
    rw [b0] at a0
    rw [b1] at a1
    exact ⟨by simpa using a0, Fin.ext (by omega)⟩
  · rintro ⟨h, rfl⟩ a
    match a with
    | ⟨0, _⟩ => show (dims N C E wf).start (ix2 e c') idx 0 + ((dims N C E wf).window (ix2 e c') 0 : ℤ) = n.val
                rw [h0, w0, h]; simp
    | ⟨1, _⟩ => show (dims N C E wf).start (ix2 e c') idx 1 + ((dims N C E wf).window (ix2 e c') 1 : ℤ) = c'.val
                rw [h1, w1]; simp

/-- The sum at `(n, c)`: the operand there plus entry `c` of every row whose word is `n`. -/
theorem apply (x : (⟨2, ![N, C]⟩ : Shape).Idx → Ideal .f32) (idx : IVec ⟨2, ![E, 1]⟩ 32) (upd : (⟨2, ![E, C]⟩ : Shape).Idx → Ideal .f32)
    (n : Fin N) (c : Fin C) :
    Host.scatterAdd (F := Ideal) (φ := .f32) (dims N C E wf) x idx upd (ix2 n c)
      = x (ix2 n c) + ∑ e : Fin E, if (idx (ix2 e 0)).toInt = n.val then upd (ix2 e c) else 0 := by
  show x (ix2 n c) + ∑ j ∈ Finset.univ.filter (fun j => (dims N C E wf).resultIdx? j idx = some (ix2 n c)), upd j = _
  refine congrArg _ ?_
  rw [Finset.sum_filter, sum_idx2]
  refine Finset.sum_congr rfl fun e _ => ?_
  simp only [lands]
  by_cases h : (idx (ix2 e 0)).toInt = n.val
  · simp [h]
  · simp [h]

end Cert.Proof.RowSums

end
-- ==== Proof.ReferenceValue.lean ====
/-
  The reference's arrays at an element, and its result's entries as the sums of `Terms`.
-/
module

public import proofs.«01_k».proof.Proof.Reference
public import proofs.«01_k».proof.Proof.RowSums
public import proofs.«01_k».proof.Proof.Terms
public import Idealize.ShloMosaic.Lib.Routing.Ops
public import Idealize.ShloMosaic.Lib.Pointwise.IndexBridge

@[expose] public section

noncomputable section

namespace Cert.Proof.Reference

open Cert.ReferenceIdeal Cert.ReferenceIdeal.Gen
open Idealize.ShloMosaic
open Cert.Proof.Constants Cert.Proof.Terms

variable (X : Feats) (Q : Points) (S R : Ends) (W0 : Weights 256 128) (W1 : Weights 128 64) (Wsc : Weights 128 128)

/-! ## Rows named by words -/

/-- A word below 10000 names its own row. -/
theorem wrap_apply (I : Ends) (e : Fin 160000) (h : (I (ix1 e)).toNat < 10000) : wrap I (ix2 e 0) = BitVec.ofNat 32 (node (I (ix1 e))).val := by
  unfold wrap
  pointwise
  rw [Routing.wrap_of_lt _ _ (by omega), node_val h, BitVec.ofNat_toNat, BitVec.setWidth_eq]

theorem toInt_eq {w : BitVec 32} (h : w.toNat < 10000) (n : Fin 10000) : w.toInt = (n.val : ℤ) ↔ node w = n := by
  rw [BitVec.toInt_eq_toNat_of_lt (by omega), Fin.ext_iff, node_val h]
  omega

variable (hS : ∀ e, (S e).toNat < 10000) (hR : ∀ e, (R e).toNat < 10000)

include hS in
theorem feats_apply (e : Fin 160000) (j : Fin 128) : (feats (F := Ideal) X S (ix2 e j) : EReal) = X (ix2 (node (S (ix1 e))) j) := by
  have h := wrap_apply S e (hS _)
  unfold feats
  rw [ix2_eq_valueIdx] at h ⊢
  rw [Routing.gather_row _ rfl rfl rfl rfl rfl X (wrap S) e j (node (S (ix1 e))) h (by decide), ix2_eq_valueIdx]

theorem point_apply (I : Ends) (e : Fin 160000) (h : (I (ix1 e)).toNat < 10000) (x : Fin 3) :
    Host.gather gather_S10000x3_S160000x1_S160000x3_1_0_n_n_0_1_13 Q (wrap I) (ix2 e x) = Q (ix2 (node (I (ix1 e))) x) := by
  have h := wrap_apply I e h
  rw [ix2_eq_valueIdx] at h ⊢
  rw [Routing.gather_row _ rfl rfl rfl rfl rfl Q (wrap I) e x (node (I (ix1 e))) h (by decide), ix2_eq_valueIdx]

include hS hR in
theorem steps_apply (e : Fin 160000) (x : Fin 3) :
    (steps (F := Ideal) Q S R (ix2 e x) : EReal) = rel Q (node (S (ix1 e))) (node (R (ix1 e))) x := by
  show (Host.gather gather_S10000x3_S160000x1_S160000x3_1_0_n_n_0_1_13 Q (wrap R) (ix2 e x)
    - Host.gather gather_S10000x3_S160000x1_S160000x3_1_0_n_n_0_1_13 Q (wrap S) (ix2 e x) : EReal) = _
  rw [point_apply Q R e (hR _), point_apply Q S e (hS _)]
  rfl

/-! ## Harmonics -/

include hS hR in
theorem units_apply (e : Fin 160000) (x : Fin 3) :
    (units (F := Ideal) Q S R (ix2 e x) : EReal)
      = Ideal.div (rel Q (node (S (ix1 e))) (node (R (ix1 e))) x) (gap Q (node (S (ix1 e))) (node (R (ix1 e)))) := by
  unfold units
  pointwise
  simp only [steps_apply Q S R hS hR]
  unfold gap
  rw [← ofBits_eps]

theorem linear_apply (col : S160000x1.Idx → EReal) (e : Fin 160000) :
    (linear (F := Ideal) col (ix2 e 0) : EReal) = (c1 : EReal) * col (ix2 e 0) := by
  unfold linear
  pointwise
  rw [← ofBits_c1]

theorem harmonics_zero (e : Fin 160000) : (harmonics (F := Ideal) Q S R (ix2 e 0) : EReal) = (c00 : EReal) := by
  unfold harmonics
  pointwise
  rw [← ofBits_c00]

include hS hR in
theorem harmonics_succ (e : Fin 160000) (k : Fin 3) :
    (harmonics (F := Ideal) Q S R (ix2 e ⟨1 + k.val, by omega⟩) : EReal)
      = (c1 : EReal) * Ideal.div (rel Q (node (S (ix1 e))) (node (R (ix1 e))) (axis k)) (gap Q (node (S (ix1 e))) (node (R (ix1 e)))) := by
  rw [← units_apply Q S R hS hR]
  unfold harmonics
  match k with
  | 0 => pointwise; rw [linear_apply]; pointwise; rfl
  | 1 => pointwise; rw [linear_apply]; pointwise; rfl
  | 2 => pointwise; rw [linear_apply]; pointwise; rfl

/-! ## Messages -/

include hS in
theorem products_apply (e : Fin 160000) (j : Fin 128) (h : Fin 4) :
    (products (F := Ideal) X Q S R (ix3 e j h) : EReal) = X (ix2 (node (S (ix1 e))) j) * harmonics (F := Ideal) Q S R (ix2 e h) := by
  unfold products
  pointwise
  rw [feats_apply X S hS]

include hS in
theorem scalars_apply (e : Fin 160000) (j : Fin 256) :
    (scalars (F := Ideal) X Q S R (ix2 e j) : EReal) = scalarFeat X (node (S (ix1 e))) j := by
  unfold scalars scalarFeat
  pointwise
  split
  · rw [feats_apply X S hS]
  · rw [products_apply X Q S R hS, harmonics_zero]

include hS hR in
theorem vectors_apply (e : Fin 160000) (j : Fin 128) (k : Fin 3) (x : Fin 384) (hx : x.val = j.val * 3 + k.val) :
    (vectors (F := Ideal) X Q S R (ix2 e x) : EReal)
      = X (ix2 (node (S (ix1 e))) j)
        * ((c1 : EReal) * Ideal.div (rel Q (node (S (ix1 e))) (node (R (ix1 e))) (axis k)) (gap Q (node (S (ix1 e))) (node (R (ix1 e))))) := by
  have ej : x.val / 3 = j.val := by omega
  have ek : x.val % 3 = k.val := by omega
  unfold vectors
  pointwise
  simp only [ej, ek]
  rw [products_apply X Q S R hS, harmonics_succ Q S R hS hR]

/-! ## Sums by receiver -/

include hS hR in
theorem scalarSums_apply (n : Fin 10000) (j : Fin 256) :
    (scalarSums (F := Ideal) X Q S R (ix2 n j) : EReal) = gathered S R n fun s _ => scalarFeat X s j := by
  refine (RowSums.apply (N := 10000) (C := 256) (E := 160000) _ _ _ _ n j).trans ?_
  pointwise
  simp only [toInt_eq (hR _), scalars_apply X Q S R hS]
  rfl

include hS hR in
theorem vectorSums_apply (n : Fin 10000) (j : Fin 128) (k : Fin 3) (x : Fin 384) (hx : x.val = j.val * 3 + k.val) :
    (vectorSums (F := Ideal) X Q S R (ix2 n x) : EReal)
      = gathered S R n fun s r => X (ix2 s j) * ((c1 : EReal) * Ideal.div (rel Q s r (axis k)) (gap Q s r)) := by
  refine (RowSums.apply (N := 10000) (C := 384) (E := 160000) _ _ _ _ n x).trans ?_
  pointwise
  simp only [toInt_eq (hR _), vectors_apply X Q S R hS hR _ j k x hx]
  rfl

/-! ## The result -/

theorem scalarOut_apply (A : S10000x256.Idx → EReal) (n : Fin 10000) (o : Fin 128) :
    (scalarOut (F := Ideal) X W0 Wsc A (ix2 n o) : EReal)
      = Ideal.div (∑ k : Fin 128, X (ix2 n k) * Wsc (ix2 k o)) (q128 : EReal)
        + Ideal.div (∑ j : Fin 256, Ideal.div (A (ix2 n j)) ((16 : ℝ) : EReal) * W0 (ix2 j o)) (q256 : EReal) := by
  unfold scalarOut
  simp only [id]
  pointwise
  rw [sqrt_128, sqrt_256]
  simp only [ofBits_16]

theorem vectorOut_apply (B : S10000x384.Idx → EReal) (n : Fin 10000) (o : Fin 64) (k : Fin 3) (x : Fin 192) (hx : x.val = o.val * 3 + k.val) :
    (vectorOut (F := Ideal) W1 B (ix2 n x) : EReal)
      = Ideal.div (∑ j : Fin 128, W1 (ix2 j o) * Ideal.div (B (ix2 n ⟨j.val * 3 + k.val, by omega⟩)) ((16 : ℝ) : EReal)) (q128 : EReal) := by
  have eo : x.val / 3 = o.val := by omega
  have ek : x.val % 3 = k.val := by omega
  unfold vectorOut
  simp only [id]
  pointwise
  simp only [eo, ek, ofBits_16, sqrt_128]

include hS hR in
/-- The first 128 entries of a row. -/
theorem result_scalar (n : Fin 10000) (o : Fin 128) :
    (result (F := Ideal) X Q S R W0 W1 Wsc (ix2 n ⟨o.val, by omega⟩) : EReal) = scalarPlain X S R W0 Wsc n o := by
  unfold result
  pointwise
  rw [scalarOut_apply]
  simp only [scalarSums_apply X Q S R hS hR]
  rfl

include hS hR in
/-- The others. -/
theorem result_vector (n : Fin 10000) (o : Fin 64) (k : Fin 3) (x : Fin 320) (hx : x.val = 128 + o.val * 3 + k.val) :
    (result (F := Ideal) X Q S R W0 W1 Wsc (ix2 n x) : EReal) = vectorPlain X Q S R W1 n o k := by
  unfold result
  pointwise
  rw [dif_neg (by omega), vectorOut_apply W1 _ n o k _ (by show x.val - 128 = _; omega)]
  simp only [fun j : Fin 128 => vectorSums_apply X Q S R hS hR n j k ⟨j.val * 3 + k.val, by omega⟩ rfl]
  rfl

end Cert.Proof.Reference

end
-- ==== Proof.Equation.lean ====
/-
  The equation: the entries formed with the weights folded first are the entries formed with the edges' sum first.
-/
module

public import proofs.«01_k».proof.Proof.Terms
public import Idealize.ShloMosaic.Lib.Pointwise

@[expose] public section

noncomputable section

namespace Cert.Proof.Terms

open Idealize.ShloMosaic
open Cert.Proof.Constants

/-! ## Sums of extended reals -/

/-- A nonnegative real factor distributes over any sum of extended reals. -/
theorem sum_mul_coe {ι : Type} (s : Finset ι) (f : ι → EReal) {t : ℝ} (ht : 0 ≤ t) : (∑ i ∈ s, f i) * (t : EReal) = ∑ i ∈ s, f i * (t : EReal) := by
  classical
  induction s using Finset.induction_on with
  | empty => simp
  | insert a s ha ih =>
    rw [Finset.sum_insert ha, Finset.sum_insert ha, EReal.right_distrib_of_nonneg_of_ne_top (by exact_mod_cast ht) (EReal.coe_ne_top t), ih]

/-- A sum of reals is the real sum. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A square is not negative, infinite or not. -/
theorem square_nonneg (a : EReal) : 0 ≤ a * a := by
  induction a with
  | bot => simp
  | top => simp
  | coe r => exact_mod_cast mul_self_nonneg r

/-- A number whose square is below ⊤ is a real. -/
theorem real_of_square {a : EReal} (h : a * a ≠ ⊤) : ∃ r : ℝ, a = r := by
  induction a with
  | bot => simp at h
  | top => simp at h
  | coe r => exact ⟨r, rfl⟩

variable (X : Feats) (Q : Points) (S R : Ends) (W0 : Weights 256 128) (W1 : Weights 128 64) (Wsc : Weights 128 128)

/-- The real sum over the edges that end at node `n`. -/
def gatheredReal (n : Fin 10000) (f : Fin 10000 → Fin 10000 → ℝ) : ℝ :=
  ∑ e : Fin 160000, if node (R (ix1 e)) = n then f (node (S (ix1 e))) (node (R (ix1 e))) else 0

theorem gathered_coe (n : Fin 10000) (f : Fin 10000 → Fin 10000 → ℝ) : gathered S R n (fun s r => (f s r : EReal)) = (gatheredReal S R n f : EReal) := by
  unfold gathered gatheredReal
  rw [← sum_coe]
  refine Finset.sum_congr rfl fun e _ => ?_
  split <;> rfl

/-- Weights applied at each edge, or once to the edges' sums. -/
theorem gatheredReal_weights {ι : Type} [Fintype ι] (n : Fin 10000) (f : ι → Fin 10000 → Fin 10000 → ℝ) (w : ι → ℝ) :
    gatheredReal S R n (fun s r => ∑ j, f j s r * w j) = ∑ j, gatheredReal S R n (f j) * w j := by
  unfold gatheredReal
  simp only [Finset.sum_mul]
  rw [Finset.sum_comm]
  refine Finset.sum_congr rfl fun e _ => ?_
  split
  · rfl
  · simp

/-! ## Unit steps -/

/-- A scaled coordinate of the unit step is a real, and the scale may be divided first: a step of infinite length gives zero both ways. -/
theorem unit_real (s r : Fin 10000) (x : Fin 3) : ∃ u : ℝ, rel Q s r x * Ideal.div (c1 : EReal) (gap Q s r) = u
    ∧ (c1 : EReal) * Ideal.div (rel Q s r x) (gap Q s r) = u := by
  have hle : rel Q s r x * rel Q s r x ≤ ∑ y : Fin 3, rel Q s r y * rel Q s r y :=
    Finset.single_le_sum (f := fun y => rel Q s r y * rel Q s r y) (fun y _ => square_nonneg _) (Finset.mem_univ x)
  unfold gap
  generalize (∑ y : Fin 3, rel Q s r y * rel Q s r y) = t at hle
  generalize rel Q s r x = a at hle
  have h0 : 0 ≤ t := (square_nonneg a).trans hle
  induction t with
  | bot => simp at h0
  | top =>
    refine ⟨0, ?_, ?_⟩ <;> simp [Ideal.div, Ideal.sqrt_top]
  | coe t =>
    obtain ⟨a, rfl⟩ := real_of_square (ne_top_of_le_ne_top (EReal.coe_ne_top t) hle)
    have ht : 0 ≤ t := by exact_mod_cast h0
    have hg : Real.sqrt t + eps ≠ 0 := by have := Real.sqrt_nonneg t; have := eps_pos; positivity
    rw [Ideal.sqrt_coe, if_neg (not_lt.2 ht), ← EReal.coe_add, Ideal.div_coe hg, Ideal.div_coe hg]
    refine ⟨a * (c1 * (1 / (Real.sqrt t + eps))), by push_cast; rfl, ?_⟩
    rw [← EReal.coe_mul, ← EReal.coe_mul]
    congr 1
    ring

/-! ## The entries -/

/-- The shortcut: its weights scaled first, or its sum divided. -/
theorem short_eq (n : Fin 10000) (o : Fin 128) :
    (∑ k : Fin 128, X (ix2 n k) * (Wsc (ix2 k o) * ((1 / q128 : ℝ) : EReal))) = Ideal.div (∑ k : Fin 128, X (ix2 n k) * Wsc (ix2 k o)) (q128 : EReal) := by
  rw [Ideal.div_coe q128_pos.ne', sum_mul_coe _ _ (by have := q128_pos; positivity)]
  exact Finset.sum_congr rfl fun k _ => (mul_assoc _ _ _).symm

variable (x : (⟨2, ![10000, 128]⟩ : Shape).Idx → ℝ) (w0 : (⟨2, ![256, 128]⟩ : Shape).Idx → ℝ) (w1 : (⟨2, ![128, 64]⟩ : Shape).Idx → ℝ)

/-- A sender's real scalar features. -/
def scalarFeatReal (s : Fin 10000) (j : Fin 256) : ℝ :=
  if h : j.val < 128 then x (ix2 s ⟨j.val, h⟩) else x (ix2 s ⟨j.val - 128, by omega⟩) * c00

theorem scalarFeat_coe (s : Fin 10000) (j : Fin 256) : scalarFeat (fun i => (x i : EReal)) s j = (scalarFeatReal x s j : EReal) := by
  unfold scalarFeat scalarFeatReal
  split
  · rfl
  · rw [EReal.coe_mul]

/-- The two halves of the scalar weights, folded. -/
theorem fold_halves (s : Fin 10000) (o : Fin 128) (t : ℝ) :
    (∑ k : Fin 128, x (ix2 s k) * ((w0 (ix2 ⟨k.val, by omega⟩ o) + c00 * w0 (ix2 ⟨128 + k.val, by omega⟩ o)) * t))
      = ∑ j : Fin 256, scalarFeatReal x s j * (w0 (ix2 j o) * t) := by
  rw [Fin.sum_univ_two_halves 128 128 rfl, ← Finset.sum_add_distrib]
  refine Finset.sum_congr rfl fun k _ => ?_
  have h1 (h : k.val < 256) : scalarFeatReal x s ⟨k.val, h⟩ = x (ix2 s k) := dif_pos k.isLt
  have h2 (h : 128 + k.val < 256) : scalarFeatReal x s ⟨128 + k.val, h⟩ = x (ix2 s k) * c00 := by
    have e : (⟨128 + k.val - 128, by omega⟩ : Fin 128) = k := Fin.ext (by simp)
    unfold scalarFeatReal
    rw [dif_neg (by simp), e]
  rw [h1, h2]
  ring

/-- A divisor of 16 and one of `q`, together or one after the other. -/
theorem scale_split (a b q : ℝ) : a * (b * (1 / (16 * q))) = a * (1 / 16) * b * (1 / q) := by
  rw [one_div, one_div, one_div, mul_inv]
  ring

theorem scalar_eq_coe (n : Fin 10000) (o : Fin 128) :
    scalarFolded (fun i => (x i : EReal)) S R (fun i => (w0 i : EReal)) Wsc n o = scalarPlain (fun i => (x i : EReal)) S R (fun i => (w0 i : EReal)) Wsc n o := by
  unfold scalarFolded scalarPlain
  refine congrArg₂ _ (short_eq (fun i => (x i : EReal)) Wsc n o) ?_
  have h16 : (16 : ℝ) ≠ 0 := by norm_num
  have hq := q256_pos.ne'
  simp only [← EReal.coe_mul, ← EReal.coe_add, sum_coe, scalarFeat_coe, gathered_coe, Ideal.div_coe h16, Ideal.div_coe hq]
  refine congrArg (fun y : ℝ => (y : EReal)) ?_
  simp only [fold_halves]
  rw [gatheredReal_weights S R n (fun j s _ => scalarFeatReal x s j), Finset.sum_mul]
  refine Finset.sum_congr rfl fun j _ => ?_
  exact scale_split _ _ _

theorem vector_eq_coe (n : Fin 10000) (o : Fin 64) (k : Fin 3) :
    vectorFolded (fun i => (x i : EReal)) Q S R (fun i => (w1 i : EReal)) n o k = vectorPlain (fun i => (x i : EReal)) Q S R (fun i => (w1 i : EReal)) n o k := by
  unfold vectorFolded vectorPlain
  choose u hu hu' using unit_real Q
  have h16 : (16 : ℝ) ≠ 0 := by norm_num
  have hq := q128_pos.ne'
  simp only [hu, hu', ← EReal.coe_mul, sum_coe, gathered_coe, Ideal.div_coe h16, Ideal.div_coe hq]
  refine congrArg (fun y : ℝ => (y : EReal)) ?_
  have e s r : (∑ j : Fin 128, x (ix2 s j) * (w1 (ix2 j o) * (1 / (16 * q128)))) * u s r (axis k)
      = ∑ j : Fin 128, x (ix2 s j) * u s r (axis k) * (w1 (ix2 j o) * (1 / (16 * q128))) := by
    rw [Finset.sum_mul]
    exact Finset.sum_congr rfl fun j _ => by ring
  simp only [e]
  rw [gatheredReal_weights S R n (fun j s r => x (ix2 s j) * u s r (axis k)), Finset.sum_mul]
  refine Finset.sum_congr rfl fun j _ => ?_
  rw [scale_split]
  exact congrArg (· * (1 / q128)) (mul_comm _ _)

/-- An array of finite entries is an array of reals. -/
theorem real_of_finite {ι : Type} (f : ι → EReal) (h : ∀ i, f i ≠ ⊤ ∧ f i ≠ ⊥) : ∃ g : ι → ℝ, f = fun i => (g i : EReal) :=
  ⟨fun i => (f i).toReal, funext fun i => (EReal.coe_toReal (h i).1 (h i).2).symm⟩

/-- The scalar entries agree at finite features and weights. -/
theorem scalar_eq (hX : ∀ i, X i ≠ ⊤ ∧ X i ≠ ⊥) (hW : ∀ i, W0 i ≠ ⊤ ∧ W0 i ≠ ⊥) (n : Fin 10000) (o : Fin 128) :
    scalarFolded X S R W0 Wsc n o = scalarPlain X S R W0 Wsc n o := by
  obtain ⟨x, rfl⟩ := real_of_finite X hX
  obtain ⟨w, rfl⟩ := real_of_finite W0 hW
  exact scalar_eq_coe S R Wsc x w n o

/-- The vector entries agree at finite features and weights. -/
theorem vector_eq (hX : ∀ i, X i ≠ ⊤ ∧ X i ≠ ⊥) (hW : ∀ i, W1 i ≠ ⊤ ∧ W1 i ≠ ⊥) (n : Fin 10000) (o : Fin 64) (k : Fin 3) :
    vectorFolded X Q S R W1 n o k = vectorPlain X Q S R W1 n o k := by
  obtain ⟨x, rfl⟩ := real_of_finite X hX
  obtain ⟨w, rfl⟩ := real_of_finite W1 hW
  exact vector_eq_coe Q S R x w n o k

end Cert.Proof.Terms

end
-- ==== Proof.Algebraic.lean ====
/-
  The value claim: on finite features and weights, over edges that name nodes, the kernel and the reference leave the same array.
-/
module

public import proofs.«01_k».proof.Proof.Frames
public import proofs.«01_k».proof.Proof.KernelValue
public import proofs.«01_k».proof.Proof.ReferenceValue
public import proofs.«01_k».proof.Proof.Equation

@[expose] public section

noncomputable section

namespace Cert.Proof

open Idealize.ShloMosaic Idealize.ShloMosaic.TcCoe Idealize.SL.Sem Edge
open Cert.Proof.Terms

attribute [local instance] facts_finite

/-! ## Finite arrays -/

/-- A number whose magnitude is below ⊤ is a real. -/
theorem finite_of_cmp {a : EReal} (h : Ideal.cmp .olt (max a (-a)) (Ideal.ofBits .f32 0x7F800000#32) = 1#1) : a ≠ ⊤ ∧ a ≠ ⊥ := by
  rw [show Ideal.ofBits .f32 0x7F800000#32 = ⊤ by simp [Ideal.ofBits, Ideal.ieee]] at h
  refine ⟨?_, ?_⟩ <;> rintro rfl <;> simp [Ideal.cmp] at h

section Finite

variable {x0 x1 S R x4 x5 x6}

theorem features_finite (h : (Cert.Pre_finite_on_nodes.fn (F := Ideal) x0 x1 S R x4 x5 x6).2.1 = fun _ => 1#1) (i) :
    (x0 i : EReal) ≠ ⊤ ∧ (x0 i : EReal) ≠ ⊥ := finite_of_cmp (congrFun h i)

theorem scalarWeights_finite (h : (Cert.Pre_finite_on_nodes.fn (F := Ideal) x0 x1 S R x4 x5 x6).2.2.1 = fun _ => 1#1) (i) :
    (x4 i : EReal) ≠ ⊤ ∧ (x4 i : EReal) ≠ ⊥ := finite_of_cmp (congrFun h i)

theorem vectorWeights_finite (h : (Cert.Pre_finite_on_nodes.fn (F := Ideal) x0 x1 S R x4 x5 x6).2.2.2 = fun _ => 1#1) (i) :
    (x5 i : EReal) ≠ ⊤ ∧ (x5 i : EReal) ≠ ⊥ := finite_of_cmp (congrFun h i)

end Finite

/-! ## The two arrays -/

section Arrays

open Cert.KernelIdeal Cert.KernelIdeal.Gen

/-- Columns of the result: a scalar entry, or one of a vector's three. -/
theorem column_cases (x : Fin 320) : (∃ o : Fin 128, x = ⟨o.val, by omega⟩) ∨ ∃ (o : Fin 64) (k : Fin 3), x.val = 128 + o.val * 3 + k.val := by
  by_cases h : x.val < 128
  · exact .inl ⟨⟨x.val, h⟩, rfl⟩
  · exact .inr ⟨⟨(x.val - 128) / 3, by omega⟩, ⟨(x.val - 128) % 3, by omega⟩, by simp only; omega⟩

variable (m : (ℓ : Loc nD τ sig) → Buf (Elt Ideal) ℓ) (c : Dev nD)

/-- What the kernel leaves is the reference's result of the same arguments. -/
theorem arrays_eq (h : Cert.Pre_KernelIdeal_finite_on_nodes m) :
    (V7 m (Run.outs m) c main_v39 : S10000x320.Idx → EReal)
      = Reference.result (F := Ideal) (Host.argX m c) (Host.argQ m c) (Host.argS m c) (Host.argR m c) (Host.argW0 m c) (Host.argW1 m c) (Host.argWsc m c) := by
  obtain ⟨hE, hX, hW0, hW1⟩ := h c
  obtain ⟨hS, hR⟩ := nodes_of_finite hE
  have fX := features_finite hX
  funext i
  obtain ⟨n, x, rfl⟩ : ∃ n x, i = ix2 n x := ⟨_, _, eq_ix2 i⟩
  rcases column_cases x with ⟨o, rfl⟩ | ⟨o, k, hx⟩
  · rw [Host.result_scalar m c hS hR n o, Reference.result_scalar _ _ _ _ _ _ _ hS hR n o]
    exact scalar_eq _ _ _ _ _ fX (scalarWeights_finite hW0) n o
  · rw [Host.result_vector m c hS hR n o k x hx, Reference.result_vector _ _ _ _ _ _ _ hS hR n o k x hx]
    exact vector_eq _ _ _ _ _ fX (vectorWeights_finite hW1) n o k

end Arrays

/-- The value claim. -/
theorem algebraic : algebraic_KernelIdeal_ReferenceIdeal_pre_finite_on_nodes (hKernelIdeal := Cert.KernelIdeal.Gen.facts)
    (hReferenceIdeal := Cert.ReferenceIdeal.Gen.facts) (hPre_finite_on_nodes := facts_finite) := by
  intro m g m' g' hm hargs
  refine ⟨fun c => Cert.KernelIdeal.Gen.V7 m (Run.outs m) c Cert.KernelIdeal.main_v39,
    θ_run_mono (Run.run m g (words_ok m fun c => nodes_of_finite (hm c).1)) fun r h => h.1,
    θ_run_mono (Cert.ReferenceIdeal.Value.run m' g') fun r h c => ⟨(h c).1.trans ?_, (h c).2⟩⟩
  obtain ⟨a0, a1, a2, a3, a4, a5, a6⟩ := hargs c
  refine (Reference.res_eq m' c).trans ?_
  rw [a0, a1, a2, a3, a4, a5, a6]
  exact (arrays_eq m c hm).symm

end Cert.Proof

end
-- ==== Proof.lean ====
module

public import proofs.«01_k».proof.Proof.Algebraic

/-! The whole certificate, from its parts. -/

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Edge.facts_edges, Edge.facts_finite,
    frame_kernel, frame_ideal, frame_ideal_finite, frame_reference, frame_reference_finite, trivial, algebraic⟩

end Cert.Proof

end
